-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v38)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v38) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v52) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  IdealRules.bf16_pair.BufferStatement Cert.Kernel3Ideal.S262144x2x128 Cert.Kernel3Ideal.S262144x1x128
  ∧ IdealRules.bf16_pair.BufferStatement Cert.Kernel3Ideal.S32768x2x512 Cert.Kernel3Ideal.S32768x1x512
  ∧ IdealRules.bf16_pair.BufferStatement Cert.Kernel3Ideal.S4096x2x128 Cert.Kernel3Ideal.S4096x1x128
  ∧ IdealRules.bf16_pair.BufferStatement Cert.Kernel3Ideal.S512x2x512 Cert.Kernel3Ideal.S512x1x512
  ∧ IdealRules.bf16_pair.HalfStatement Cert.Kernel3Ideal.S512x1024
  ∧ IdealRules.bf16_pair.Statement Cert.Kernel3Ideal.S512x2x512 Cert.Kernel3Ideal.S512x1x512
  ∧ IdealRules.bf16_pair.Statement Cert.Kernel3Ideal.S512x2x128 Cert.Kernel3Ideal.S512x1x128

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v4_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
-- ==== Pre_finite.lean ====
abbrev S8x4096x1024 : Shape := ⟨3, ![8, 4096, 1024]⟩
abbrev S1024 : Shape := ⟨1, ![1024]⟩
abbrev S1024x3072 : Shape := ⟨2, ![1024, 3072]⟩
abbrev S64 : Shape := ⟨1, ![64]⟩
abbrev S_ : Shape := ⟨0, ![]⟩

class Facts : Prop where
  bcast_S_S1024 : S_.BroadcastsInDim S1024 (![] : Fin 0 → Fin S1024.rank)
  bcast_S_S1024x3072 : S_.BroadcastsInDim S1024x3072 (![] : Fin 0 → Fin S1024x3072.rank)

variable [Facts]

def fn {F : FTy → Type} [FloatOps F] (main_arg0 : FVec F S8x4096x1024 .f32) (main_arg1 : FVec F S1024 .f32) (main_arg2 : FVec F S1024x3072 .f32) (main_arg3 : FVec F S64 .f32) (main_arg4 : FVec F S64 .f32) : IVec S1024 1 × IVec S1024x3072 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x3072 .f32 := Host.absf main_arg2
  let main_cst_0 : FVec F S_ .f32 := constant S_ .f32 0x7F800000#32
  let main_v4 : FVec F S1024x3072 .f32 := broadcastInDim S1024x3072 ![] bcast_S_S1024x3072 main_cst_0
  let main_v5 : IVec S1024x3072 1 := cmpf .olt main_v3 main_v4
  (main_v2, main_v5)
-- ==== Kernel.lean ====
abbrev S8x4096x1024 : Shape := ⟨3, ![8, 4096, 1024]⟩
abbrev S1024 : Shape := ⟨1, ![1024]⟩
abbrev S1024x2048 : Shape := ⟨2, ![1024, 2048]⟩
abbrev S4x1024 : Shape := ⟨2, ![4, 1024]⟩
abbrev S4x256x256 : Shape := ⟨3, ![4, 256, 256]⟩
abbrev S1024x1024 : Shape := ⟨2, ![1024, 1024]⟩
abbrev S1x1024 : Shape := ⟨2, ![1, 1024]⟩
abbrev S1x256x1024 : Shape := ⟨3, ![1, 256, 1024]⟩
abbrev S264x1024 : Shape := ⟨2, ![264, 1024]⟩
abbrev S8x1024 : Shape := ⟨2, ![8, 1024]⟩
abbrev S256x1024 : Shape := ⟨2, ![256, 1024]⟩
abbrev S256 : Shape := ⟨1, ![256]⟩
abbrev S256x1 : Shape := ⟨2, ![256, 1]⟩
abbrev S256x2048 : Shape := ⟨2, ![256, 2048]⟩
abbrev S256x256 : Shape := ⟨2, ![256, 256]⟩
abbrev S1x256x256 : Shape := ⟨3, ![1, 256, 256]⟩

abbrev nBuf : Space → Nat
  | .hbm => 21
  | .vmem => 19
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x2048, .f32⟩
  | .hbm, ⟨3, _⟩ => ⟨S4x1024, .f32⟩
  | .hbm, ⟨4, _⟩ => ⟨S1024, .f32⟩
  | .hbm, ⟨5, _⟩ => ⟨S4x256x256, .f32⟩
  | .hbm, ⟨6, _⟩ => ⟨S1024, .f32⟩
  | .hbm, ⟨7, _⟩ => ⟨S4x256x256, .f32⟩
  | .hbm, ⟨8, _⟩ => ⟨S1024, .f32⟩
  | .hbm, ⟨9, _⟩ => ⟨S1024, .f32⟩
  | .hbm, ⟨10, _⟩ => ⟨S1024x1024, .f32⟩
  | .hbm, ⟨11, _⟩ => ⟨S1x1024, .f32⟩
  | .hbm, ⟨12, _⟩ => ⟨S1024x2048, .bf16⟩
  | .hbm, ⟨13, _⟩ => ⟨S1x1024, .f32⟩
  | .hbm, ⟨14, _⟩ => ⟨S4x256x256, .bf16⟩
  | .hbm, ⟨15, _⟩ => ⟨S1x1024, .f32⟩
  | .hbm, ⟨16, _⟩ => ⟨S4x256x256, .bf16⟩
  | .hbm, ⟨17, _⟩ => ⟨S1x1024, .f32⟩
  | .hbm, ⟨18, _⟩ => ⟨S1x1024, .f32⟩
  | .hbm, ⟨19, _⟩ => ⟨S1024x1024, .bf16⟩
  | .hbm, ⟨20, _⟩ => ⟨S8x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x2048, .bf16⟩
  | .local _ .vmem, ⟨4, _⟩ => ⟨S4x1024, .f32⟩
  | .local _ .vmem, ⟨5, _⟩ => ⟨S1x1024, .f32⟩
  | .local _ .vmem, ⟨6, _⟩ => ⟨S4x256x256, .bf16⟩
  | .local _ .vmem, ⟨7, _⟩ => ⟨S1x1024, .f32⟩
  | .local _ .vmem, ⟨8, _⟩ => ⟨S4x256x256, .bf16⟩
  | .local _ .vmem, ⟨9, _⟩ => ⟨S1x1024, .f32⟩
  | .local _ .vmem, ⟨10, _⟩ => ⟨S1x1024, .f32⟩
  | .local _ .vmem, ⟨11, _⟩ => ⟨S1024x1024, .bf16⟩
  | .local _ .vmem, ⟨12, _⟩ => ⟨S1x256x1024, .f32⟩
  | .local _ .vmem, ⟨13, _⟩ => ⟨S1x256x1024, .f32⟩
  | .local _ .vmem, ⟨14, _⟩ => ⟨S264x1024, .f32⟩
  | .local _ .vmem, ⟨15, _⟩ => ⟨S8x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨2, ![8, 16], ![false, false]⟩

@[reducible] def k0_t1_loop : Scf.Loop 32 :=
  let c0_i32_77 : BitVec 32 := 0#32
  let c256_i32 : BitVec 32 := 256#32
  let v135 : BitVec 32 := Scalar.addi c0_i32_77 c256_i32
  let c1_i32 : BitVec 32 := 1#32
  ⟨c0_i32_77, v135, c1_i32⟩
def k0_off1 (k0_t1 : Fin k0_t1_loop.trips) : Fin 2 → Nat :=
  let c0_i32_77 : BitVec 32 := 0#32
  let c1_i32 : BitVec 32 := 1#32
  let arg19 : BitVec 32 := Scf.iv c0_i32_77 c1_i32 k0_t1
  let v163 : Index := Scalar.indexCast arg19
  let c0_93 : Index := 0#32
  ![v163.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S8x4096x1024 : Shape := ⟨3, ![8, 4096, 1024]⟩
abbrev S1024 : Shape := ⟨1, ![1024]⟩
abbrev S1024x2048 : Shape := ⟨2, ![1024, 2048]⟩
abbrev S4x1024 : Shape := ⟨2, ![4, 1024]⟩
abbrev S4x256x256 : Shape := ⟨3, ![4, 256, 256]⟩
abbrev S1024x1024 : Shape := ⟨2, ![1024, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4099x1024 : Shape := ⟨3, ![8, 4099, 1024]⟩
abbrev S1x1024 : Shape := ⟨2, ![1, 1024]⟩
abbrev S8x4096x4x256 : Shape := ⟨4, ![8, 4096, 4, 256]⟩
abbrev S4x256x8x4096 : Shape := ⟨4, ![4, 256, 8, 4096]⟩
abbrev S8x1024 : Shape := ⟨2, ![8, 1024]⟩
abbrev S4096x8x1024 : Shape := ⟨3, ![4096, 8, 1024]⟩
abbrev S1x8x1024 : Shape := ⟨3, ![1, 8, 1024]⟩

abbrev nBuf : Space → Nat
  | .hbm => 193
  | .vmem => 0
  | .smem => 0
  | _ => 0

abbrev hbmTy0_0 (i : Nat) : BufTy := match i % 128 with
  | 0 => ⟨S8x4096x1024, .f32⟩
  | 1 => ⟨S1024, .f32⟩
  | 2 => ⟨S1024x2048, .f32⟩
  | 3 => ⟨S4x1024, .f32⟩
  | 4 => ⟨S1024, .f32⟩
  | 5 => ⟨S4x256x256, .f32⟩
  | 6 => ⟨S1024, .f32⟩
  | 7 => ⟨S4x256x256, .f32⟩
  | 8 => ⟨S1024, .f32⟩
  | 9 => ⟨S1024, .f32⟩
  | 10 => ⟨S1024x1024, .f32⟩
  | 11 => ⟨S8x4096x1024, .f32⟩
  | 12 => ⟨S_, .f32⟩
  | 13 => ⟨S8x4096, .f32⟩
  | 14 => ⟨S8x4096x1, .f32⟩
  | 15 => ⟨S_, .f32⟩
  | 16 => ⟨S8x4096x1, .f32⟩
  | 17 => ⟨S8x4096x1, .f32⟩
  | 18 => ⟨S_, .f32⟩
  | 19 => ⟨S8x4096x1, .f32⟩
  | 20 => ⟨S8x4096x1, .f32⟩
  | 21 => ⟨S8x4096x1, .f32⟩
  | 22 => ⟨S8x4096x1024, .f32⟩
  | 23 => ⟨S8x4096x1024, .f32⟩
  | 24 => ⟨S1x1x1024, .f32⟩
  | 25 => ⟨S8x4096x1024, .f32⟩
  | 26 => ⟨S8x4096x1024, .f32⟩
  | 27 => ⟨S1024x1024, .f32⟩
  | 28 => ⟨S8x4096x1024, .f32⟩
  | 29 => ⟨S_, .i32⟩
  | 30 => ⟨S_, .f32⟩
  | 31 => ⟨S8x4099x1024, .f32⟩
  | 32 => ⟨S8x4096x1024, .f32⟩
  | 33 => ⟨S1x1024, .f32⟩
  | 34 => ⟨S1024, .f32⟩
  | 35 => ⟨S1x1x1024, .f32⟩
  | 36 => ⟨S8x4096x1024, .f32⟩
  | 37 => ⟨S8x4096x1024, .f32⟩
  | 38 => ⟨S_, .f32⟩
  | 39 => ⟨S8x4096x1024, .f32⟩
  | 40 => ⟨S8x4096x1024, .f32⟩
  | 41 => ⟨S8x4096x1024, .f32⟩
  | 42 => ⟨S1x1024, .f32⟩
  | 43 => ⟨S1024, .f32⟩
  | 44 => ⟨S1x1x1024, .f32⟩
  | 45 => ⟨S8x4096x1024, .f32⟩
  | 46 => ⟨S8x4096x1024, .f32⟩
  | 47 => ⟨S8x4096x1024, .f32⟩
  | 48 => ⟨S8x4096x1024, .f32⟩
  | 49 => ⟨S1x1024, .f32⟩
  | 50 => ⟨S1024, .f32⟩
  | 51 => ⟨S1x1x1024, .f32⟩
  | 52 => ⟨S8x4096x1024, .f32⟩
  | 53 => ⟨S8x4096x1024, .f32⟩
  | 54 => ⟨S8x4096x1024, .f32⟩
  | 55 => ⟨S8x4096x1024, .f32⟩
  | 56 => ⟨S1x1024, .f32⟩
  | 57 => ⟨S1024, .f32⟩
  | 58 => ⟨S1x1x1024, .f32⟩
  | 59 => ⟨S8x4096x1024, .f32⟩
  | 60 => ⟨S8x4096x1024, .f32⟩
  | 61 => ⟨S8x4096x1024, .f32⟩
  | 62 => ⟨S1x1x1024, .f32⟩
  | 63 => ⟨S8x4096x1024, .f32⟩
  | 64 => ⟨S8x4096x1024, .f32⟩
  | 65 => ⟨S8x4096x4x256, .f32⟩
  | 66 => ⟨S4x256x8x4096, .f32⟩
  | 67 => ⟨S8x4096x4x256, .f32⟩
  | 68 => ⟨S8x4096x1024, .f32⟩
  | 69 => ⟨S1x1x1024, .f32⟩
  | 70 => ⟨S8x4096x1024, .f32⟩
  | 71 => ⟨S8x4096x1024, .f32⟩
  | 72 => ⟨S8x4096x1024, .f32⟩
  | 73 => ⟨S8x4096x1024, .f32⟩
  | 74 => ⟨S_, .f32⟩
  | 75 => ⟨S8x4096x1024, .f32⟩
  | 76 => ⟨S8x4096x1024, .f32⟩
  | 77 => ⟨S_, .f32⟩
  | 78 => ⟨S8x4096x1024, .f32⟩
  | 79 => ⟨S8x4096x1024, .f32⟩
  | 80 => ⟨S4x256x8x4096, .f32⟩
  | 81 => ⟨S8x4096x4x256, .f32⟩
  | 82 => ⟨S8x4096x1024, .f32⟩
  | 83 => ⟨S1x1x1024, .f32⟩
  | 84 => ⟨S8x4096x1024, .f32⟩
  | 85 => ⟨S8x4096x1024, .f32⟩
  | 86 => ⟨S8x4096x1024, .f32⟩
  | 87 => ⟨S8x4096x1024, .f32⟩
  | 88 => ⟨S_, .f32⟩
  | 89 => ⟨S8x4096x1024, .f32⟩
  | 90 => ⟨S8x4096x1024, .f32⟩
  | 91 => ⟨S_, .f32⟩
  | 92 => ⟨S8x4096x1024, .f32⟩
  | 93 => ⟨S8x4096x1024, .f32⟩
  | 94 => ⟨S_, .f32⟩
  | 95 => ⟨S8x4096x1024, .f32⟩
  | 96 => ⟨S8x4096x1024, .f32⟩
  | 97 => ⟨S1024, .f32⟩
  | 98 => ⟨S_, .f32⟩
  | 99 => ⟨S1024, .f32⟩
  | 100 => ⟨S1024, .f32⟩
  | 101 => ⟨S1024, .f32⟩
  | 102 => ⟨S1024, .f32⟩
  | 103 => ⟨S1024, .i1⟩
  | 104 => ⟨S1024, .f32⟩
  | 105 => ⟨S1024, .f32⟩
  | 106 => ⟨S1024, .f32⟩
  | 107 => ⟨S1024, .f32⟩
  | 108 => ⟨S1024, .f32⟩
  | 109 => ⟨S1024, .f32⟩
  | 110 => ⟨S1024, .f32⟩
  | 111 => ⟨S1024, .f32⟩
  | 112 => ⟨S1x1x1024, .f32⟩
  | 113 => ⟨S8x4096x1024, .f32⟩
  | 114 => ⟨S8x4096x1024, .f32⟩
  | 115 => ⟨S8x4096x1024, .f32⟩
  | 116 => ⟨S_, .f32⟩
  | 117 => ⟨S8x4096x1024, .f32⟩
  | 118 => ⟨S8x4096x1024, .f32⟩
  | 119 => ⟨S8x4096x1024, .f32⟩
  | 120 => ⟨S8x4096x1024, .f32⟩
  | 121 => ⟨S8x4096x1024, .f32⟩
  | 122 => ⟨S8x4096x1024, .f32⟩
  | 123 => ⟨S8x4096x1024, .f32⟩
  | 124 => ⟨S_, .f32⟩
  | 125 => ⟨S8x1024, .f32⟩
  | 126 => ⟨S4096x8x1024, .f32⟩
  | 127 => ⟨S4096x8x1024, .f32⟩
  | _ => ⟨S8x4096x1024, .f32⟩

abbrev hbmTy0_1 (i : Nat) : BufTy := match i % 128 with
  | 0 => ⟨S_, .f32⟩
  | 1 => ⟨S4096x8x1024, .f32⟩
  | 2 => ⟨S_, .i32⟩
  | 3 => ⟨S4096x8x1024, .f32⟩
  | 4 => ⟨S4096x8x1024, .f32⟩
  | 5 => ⟨S_, .i32⟩
  | 6 => ⟨S8x1024, .f32⟩
  | 7 => ⟨S4096x8x1024, .f32⟩
  | 8 => ⟨S_, .i32⟩
  | 9 => ⟨S_, .i1⟩
  | 10 => ⟨S_, .i32⟩
  | 11 => ⟨S_, .i32⟩
  | 12 => ⟨S1x8x1024, .f32⟩
  | 13 => ⟨S8x1024, .f32⟩
  | 14 => ⟨S_, .i32⟩
  | 15 => ⟨S_, .i32⟩
  | 16 => ⟨S1x8x1024, .f32⟩
  | 17 => ⟨S8x1024, .f32⟩
  | 18 => ⟨S8x1024, .f32⟩
  | 19 => ⟨S8x1024, .f32⟩
  | 20 => ⟨S1x8x1024, .f32⟩
  | 21 => ⟨S_, .i32⟩
  | 22 => ⟨S_, .i32⟩
  | 23 => ⟨S4096x8x1024, .f32⟩
  | 24 => ⟨S_, .i32⟩
  | 25 => ⟨S_, .i32⟩
  | 26 => ⟨S8x4096x1024, .f32⟩
  | 27 => ⟨S_, .f32⟩
  | 28 => ⟨S8x4096, .f32⟩
  | 29 => ⟨S8x4096x1, .f32⟩
  | 30 => ⟨S_, .f32⟩
  | 31 => ⟨S8x4096x1, .f32⟩
  | 32 => ⟨S8x4096x1, .f32⟩
  | 33 => ⟨S_, .f32⟩
  | 34 => ⟨S8x4096x1, .f32⟩
  | 35 => ⟨S8x4096x1, .f32⟩
  | 36 => ⟨S8x4096x1, .f32⟩
  | 37 => ⟨S8x4096x1024, .f32⟩
  | 38 => ⟨S8x4096x1024, .f32⟩
  | 39 => ⟨S1x1x1024, .f32⟩
  | 40 => ⟨S8x4096x1024, .f32⟩
  | 41 => ⟨S8x4096x1024, .f32⟩
  | 42 => ⟨S1024x1024, .f32⟩
  | 43 => ⟨S8x4096x1024, .f32⟩
  | 44 => ⟨S8x4096x1024, .f32⟩
  | 45 => ⟨S8x4096x1024, .f32⟩
  | 46 => ⟨S_, .f32⟩
  | 47 => ⟨S8x4096x1024, .f32⟩
  | 48 => ⟨S8x4096x1024, .f32⟩
  | 49 => ⟨S8x4096x1024, .f32⟩
  | 50 => ⟨S_, .f32⟩
  | 51 => ⟨S8x4096x1024, .f32⟩
  | 52 => ⟨S8x4096x1024, .f32⟩
  | 53 => ⟨S8x4096x1024, .f32⟩
  | 54 => ⟨S_, .f32⟩
  | 55 => ⟨S8x4096x1024, .f32⟩
  | 56 => ⟨S8x4096x1024, .f32⟩
  | 57 => ⟨S_, .f32⟩
  | 58 => ⟨S8x4096x1024, .f32⟩
  | 59 => ⟨S8x4096x1024, .f32⟩
  | 60 => ⟨S8x4096x1024, .f32⟩
  | 61 => ⟨S8x4096x1024, .f32⟩
  | 62 => ⟨S8x4096x1024, .f32⟩
  | 63 => ⟨S8x4096x1024, .f32⟩
  | 64 => ⟨S8x4096x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_call0_v0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_3 : Ref sig .tc := ⟨.hbm, 74, rfl⟩
abbrev main_v57 : Ref sig .tc := ⟨.hbm, 75, rfl⟩
abbrev main_v58 : Ref sig .tc := ⟨.hbm, 76, rfl⟩
abbrev main_cst_4 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_5 : Ref sig .tc := ⟨.hbm, 88, rfl⟩
abbrev main_v69 : Ref sig .tc := ⟨.hbm, 89, rfl⟩
abbrev main_v70 : Ref sig .tc := ⟨.hbm, 90, rfl⟩
abbrev main_cst_6 : Ref sig .tc := ⟨.hbm, 91, rfl⟩
abbrev main_v71 : Ref sig .tc := ⟨.hbm, 92, rfl⟩
abbrev main_v72 : Ref sig .tc := ⟨.hbm, 93, rfl⟩
abbrev main_cst_7 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_call1_cst : Ref sig .tc := ⟨.hbm, 98, rfl⟩
abbrev main_call1_v0 : Ref sig .tc := ⟨.hbm, 99, rfl⟩
abbrev main_call1_v1 : Ref sig .tc := ⟨.hbm, 100, rfl⟩
abbrev main_call1_v2 : Ref sig .tc := ⟨.hbm, 101, rfl⟩
abbrev main_call1_v3 : Ref sig .tc := ⟨.hbm, 102, rfl⟩
abbrev main_call1_v4 : Ref sig .tc := ⟨.hbm, 103, rfl⟩
abbrev main_call1_v5 : Ref sig .tc := ⟨.hbm, 104, rfl⟩
abbrev main_call1_v6 : Ref sig .tc := ⟨.hbm, 105, rfl⟩
abbrev main_call1_v7 : Ref sig .tc := ⟨.hbm, 106, rfl⟩
abbrev main_call1_v8 : Ref sig .tc := ⟨.hbm, 107, rfl⟩
abbrev main_call1_v9 : Ref sig .tc := ⟨.hbm, 108, rfl⟩
abbrev main_call1_v10 : Ref sig .tc := ⟨.hbm, 109, rfl⟩
abbrev main_call1_v11 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_8 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_9 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_10 : Ref sig .tc := ⟨.hbm, 128, rfl⟩
abbrev main_v91 : Ref sig .tc := ⟨.hbm, 129, rfl⟩
abbrev main_c_11 : Ref sig .tc := ⟨.hbm, 130, rfl⟩
abbrev main_v92_0 : Ref sig .tc := ⟨.hbm, 131, rfl⟩
abbrev main_v92_1 : Ref sig .tc := ⟨.hbm, 132, rfl⟩
abbrev main_v92_2 : Ref sig .tc := ⟨.hbm, 133, rfl⟩
abbrev main_v92_3 : Ref sig .tc := ⟨.hbm, 134, rfl⟩
abbrev main_v92_4 : Ref sig .tc := ⟨.hbm, 135, rfl⟩
abbrev main_while0c_c_23 : Ref sig .tc := ⟨.hbm, 136, rfl⟩
abbrev main_while0c_v125 : Ref sig .tc := ⟨.hbm, 137, rfl⟩
abbrev main_while0b_call2_c : Ref sig .tc := ⟨.hbm, 138, rfl⟩
abbrev main_while0b_call2_c_0 : Ref sig .tc := ⟨.hbm, 139, rfl⟩
abbrev main_while0b_call2_v0 : Ref sig .tc := ⟨.hbm, 140, rfl⟩
abbrev main_while0b_v125 : Ref sig .tc := ⟨.hbm, 141, rfl⟩
abbrev main_while0b_call3_c : Ref sig .tc := ⟨.hbm, 142, rfl⟩
abbrev main_while0b_call3_c_0 : Ref sig .tc := ⟨.hbm, 143, rfl⟩
abbrev main_while0b_call3_v0 : Ref sig .tc := ⟨.hbm, 144, rfl⟩
abbrev main_while0b_v126 : Ref sig .tc := ⟨.hbm, 145, rfl⟩
abbrev main_while0b_v127 : Ref sig .tc := ⟨.hbm, 146, rfl⟩
abbrev main_while0b_v128 : Ref sig .tc := ⟨.hbm, 147, rfl⟩
abbrev main_while0b_call4_v0 : Ref sig .tc := ⟨.hbm, 148, rfl⟩
abbrev main_while0b_call4_c : Ref sig .tc := ⟨.hbm, 149, rfl⟩
abbrev main_while0b_call4_c_0 : Ref sig .tc := ⟨.hbm, 150, rfl⟩
abbrev main_while0b_v129 : Ref sig .tc := ⟨.hbm, 151, rfl⟩
abbrev main_while0b_c_23 : Ref sig .tc := ⟨.hbm, 152, rfl⟩
abbrev main_while0b_v130 : Ref sig .tc := ⟨.hbm, 153, rfl⟩
abbrev main_v93 : Ref sig .tc := ⟨.hbm, 154, rfl⟩
abbrev main_cst_12 : Ref sig .tc := ⟨.hbm, 155, rfl⟩
abbrev main_v94 : Ref sig .tc := ⟨.hbm, 156, rfl⟩
abbrev main_v95 : Ref sig .tc := ⟨.hbm, 157, rfl⟩
abbrev main_cst_13 : Ref sig .tc := ⟨.hbm, 158, rfl⟩
abbrev main_v96 : Ref sig .tc := ⟨.hbm, 159, rfl⟩
abbrev main_v97 : Ref sig .tc := ⟨.hbm, 160, rfl⟩
abbrev main_cst_14 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_cst_15 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_cst_16 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_cst_17 : Ref sig .tc := ⟨.hbm, 182, rfl⟩
abbrev main_v116 : Ref sig .tc := ⟨.hbm, 183, rfl⟩
abbrev main_v117 : Ref sig .tc := ⟨.hbm, 184, rfl⟩
abbrev main_cst_18 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩

abbrev nD : Nat := 1
abbrev τ : Topo := Topo.v7x

variable {F : FTy → Type} [FloatOps F]

abbrev main_while0_count : Scf.Loop 32 := ⟨0#32, 4096#32, 1#32⟩
-- ==== Kernel2.lean ====
abbrev S8x4096x1024 : Shape := ⟨3, ![8, 4096, 1024]⟩
abbrev S1024 : Shape := ⟨1, ![1024]⟩
abbrev S1024x3072 : Shape := ⟨2, ![1024, 3072]⟩
abbrev S64 : Shape := ⟨1, ![64]⟩
abbrev S32768x1024 : Shape := ⟨2, ![32768, 1024]⟩
abbrev S1x64 : Shape := ⟨2, ![1, 64]⟩
abbrev S16x64 : Shape := ⟨2, ![16, 64]⟩
abbrev S_ : Shape := ⟨0, ![]⟩
abbrev S1x1024 : Shape := ⟨2, ![1, 1024]⟩
abbrev S3x1024 : Shape := ⟨2, ![3, 1024]⟩
abbrev S3x1x1024 : Shape := ⟨3, ![3, 1, 1024]⟩
abbrev S1024x1 : Shape := ⟨2, ![1024, 1]⟩
abbrev S128 : Shape := ⟨1, ![128]⟩
abbrev S1x128 : Shape := ⟨2, ![1, 128]⟩
abbrev S1024x128 : Shape := ⟨2, ![1024, 128]⟩
abbrev S128x1 : Shape := ⟨2, ![128, 1]⟩
abbrev S128x1024 : Shape := ⟨2, ![128, 1024]⟩
abbrev S32768x3072 : Shape := ⟨2, ![32768, 3072]⟩
abbrev S512x1024 : Shape := ⟨2, ![512, 1024]⟩
abbrev S1024x1024 : Shape := ⟨2, ![1024, 1024]⟩
abbrev S1x1x1024 : Shape := ⟨3, ![1, 1, 1024]⟩
abbrev S512 : Shape := ⟨1, ![512]⟩
abbrev S512x1 : Shape := ⟨2, ![512, 1]⟩
abbrev S512x128 : Shape := ⟨2, ![512, 128]⟩

abbrev nBuf : Space → Nat
  | .hbm => 48
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S32768x1024, .f32⟩
  | .hbm, ⟨6, _⟩ => ⟨S1x64, .f32⟩
  | .hbm, ⟨7, _⟩ => ⟨S16x64, .f32⟩
  | .hbm, ⟨8, _⟩ => ⟨S1024, .f32⟩
  | .hbm, ⟨9, _⟩ => ⟨S_, .f32⟩
  | .hbm, ⟨10, _⟩ => ⟨S1024, .f32⟩
  | .hbm, ⟨11, _⟩ => ⟨S1024, .f32⟩
  | .hbm, ⟨12, _⟩ => ⟨S1x64, .f32⟩
  | .hbm, ⟨13, _⟩ => ⟨S16x64, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S3x1024, .f32⟩
  | .hbm, ⟨21, _⟩ => ⟨S3x1x1024, .f32⟩
  | .hbm, ⟨22, _⟩ => ⟨S1024, .i32⟩
  | .hbm, ⟨23, _⟩ => ⟨S_, .i32⟩
  | .hbm, ⟨24, _⟩ => ⟨S1024, .i32⟩
  | .hbm, ⟨25, _⟩ => ⟨S1024, .i32⟩
  | .hbm, ⟨26, _⟩ => ⟨S1024x1, .i32⟩
  | .hbm, ⟨27, _⟩ => ⟨S128, .i32⟩
  | .hbm, ⟨28, _⟩ => ⟨S1x128, .i32⟩
  | .hbm, ⟨29, _⟩ => ⟨S1024x128, .i32⟩
  | .hbm, ⟨30, _⟩ => ⟨S1024x128, .i32⟩
  | .hbm, ⟨31, _⟩ => ⟨S1024x128, .i1⟩
  | .hbm, ⟨32, _⟩ => ⟨S1024x128, .f32⟩
  | .hbm, ⟨33, _⟩ => ⟨S_, .f32⟩
  | .hbm, ⟨34, _⟩ => ⟨S1024x128, .f32⟩
  | .hbm, ⟨35, _⟩ => ⟨S1024x128, .f32⟩
  | .hbm, ⟨36, _⟩ => ⟨S128, .i32⟩
  | .hbm, ⟨37, _⟩ => ⟨S128x1, .i32⟩
  | .hbm, ⟨38, _⟩ => ⟨S1x1024, .i32⟩
  | .hbm, ⟨39, _⟩ => ⟨S128x1024, .i32⟩
  | .hbm, ⟨40, _⟩ => ⟨S128x1024, .i32⟩
  | .hbm, ⟨41, _⟩ => ⟨S128x1024, .i1⟩
  | .hbm, ⟨42, _⟩ => ⟨S128x1024, .f32⟩
  | .hbm, ⟨43, _⟩ => ⟨S1x1024, .f32⟩
  | .hbm, ⟨44, _⟩ => ⟨S1024x3072, .bf16⟩
  | .hbm, ⟨45, _⟩ => ⟨S1024x128, .bf16⟩
  | .hbm, ⟨46, _⟩ => ⟨S128x1024, .bf16⟩
  | .hbm, ⟨47, _⟩ => ⟨S32768x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1x1x1024, .f32⟩
  | .local _ .vmem, ⟨6, _⟩ => ⟨S1x1x1024, .f32⟩
  | .local _ .vmem, ⟨7, _⟩ => ⟨S1024x128, .bf16⟩
  | .local _ .vmem, ⟨8, _⟩ => ⟨S128x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![64, 3], ![false, false]⟩

def k0_cond2 (i : grid0.Coords) : BitVec 1 :=
  let arg1 : BitVec 32 := BitVec.ofNat 32 (i 1).val
  let c2_i32 : BitVec 32 := 2#32
  let v7 : BitVec 1 := Scalar.cmpi .slt arg1 c2_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c2_i32_5 : BitVec 32 := 2#32
  let v10 : BitVec 1 := Scalar.cmpi .eq arg1 c2_i32_5
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S8x4096x1024 : Shape := ⟨3, ![8, 4096, 1024]⟩
abbrev S1024 : Shape := ⟨1, ![1024]⟩
abbrev S1024x3072 : Shape := ⟨2, ![1024, 3072]⟩
abbrev S64 : Shape := ⟨1, ![64]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x3072 : Shape := ⟨3, ![8, 4096, 3072]⟩
abbrev S8x4096x16x64 : Shape := ⟨4, ![8, 4096, 16, 64]⟩
abbrev S8x4096x16 : Shape := ⟨3, ![8, 4096, 16]⟩
abbrev S8x4096x16x1 : Shape := ⟨4, ![8, 4096, 16, 1]⟩
abbrev S1x1x1x64 : Shape := ⟨4, ![1, 1, 1, 64]⟩
abbrev S32768x1024 : Shape := ⟨2, ![32768, 1024]⟩
abbrev S32768x3072 : Shape := ⟨2, ![32768, 3072]⟩

abbrev nBuf : Space → Nat
  | .hbm => 68
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S8x4096x3072, .f32⟩
  | .hbm, ⟨22, _⟩ => ⟨S8x4096x1024, .f32⟩
  | .hbm, ⟨23, _⟩ => ⟨S8x4096x16x64, .f32⟩
  | .hbm, ⟨24, _⟩ => ⟨S8x4096x16x64, .f32⟩
  | .hbm, ⟨25, _⟩ => ⟨S_, .f32⟩
  | .hbm, ⟨26, _⟩ => ⟨S8x4096x16, .f32⟩
  | .hbm, ⟨27, _⟩ => ⟨S8x4096x16x1, .f32⟩
  | .hbm, ⟨28, _⟩ => ⟨S_, .f32⟩
  | .hbm, ⟨29, _⟩ => ⟨S8x4096x16x1, .f32⟩
  | .hbm, ⟨30, _⟩ => ⟨S8x4096x16x1, .f32⟩
  | .hbm, ⟨31, _⟩ => ⟨S_, .f32⟩
  | .hbm, ⟨32, _⟩ => ⟨S8x4096x16x1, .f32⟩
  | .hbm, ⟨33, _⟩ => ⟨S8x4096x16x1, .f32⟩
  | .hbm, ⟨34, _⟩ => ⟨S8x4096x16x1, .f32⟩
  | .hbm, ⟨35, _⟩ => ⟨S8x4096x16x64, .f32⟩
  | .hbm, ⟨36, _⟩ => ⟨S8x4096x16x64, .f32⟩
  | .hbm, ⟨37, _⟩ => ⟨S1x1x1x64, .f32⟩
  | .hbm, ⟨38, _⟩ => ⟨S8x4096x16x64, .f32⟩
  | .hbm, ⟨39, _⟩ => ⟨S8x4096x16x64, .f32⟩
  | .hbm, ⟨40, _⟩ => ⟨S_, .f32⟩
  | .hbm, ⟨41, _⟩ => ⟨S8x4096x16x64, .f32⟩
  | .hbm, ⟨42, _⟩ => ⟨S8x4096x16x64, .f32⟩
  | .hbm, ⟨43, _⟩ => ⟨S8x4096x1024, .f32⟩
  | .hbm, ⟨44, _⟩ => ⟨S8x4096x16x64, .f32⟩
  | .hbm, ⟨45, _⟩ => ⟨S8x4096x16x64, .f32⟩
  | .hbm, ⟨46, _⟩ => ⟨S_, .f32⟩
  | .hbm, ⟨47, _⟩ => ⟨S8x4096x16, .f32⟩
  | .hbm, ⟨48, _⟩ => ⟨S8x4096x16x1, .f32⟩
  | .hbm, ⟨49, _⟩ => ⟨S_, .f32⟩
  | .hbm, ⟨50, _⟩ => ⟨S8x4096x16x1, .f32⟩
  | .hbm, ⟨51, _⟩ => ⟨S8x4096x16x1, .f32⟩
  | .hbm, ⟨52, _⟩ => ⟨S_, .f32⟩
  | .hbm, ⟨53, _⟩ => ⟨S8x4096x16x1, .f32⟩
  | .hbm, ⟨54, _⟩ => ⟨S8x4096x16x1, .f32⟩
  | .hbm, ⟨55, _⟩ => ⟨S8x4096x16x1, .f32⟩
  | .hbm, ⟨56, _⟩ => ⟨S8x4096x16x64, .f32⟩
  | .hbm, ⟨57, _⟩ => ⟨S8x4096x16x64, .f32⟩
  | .hbm, ⟨58, _⟩ => ⟨S1x1x1x64, .f32⟩
  | .hbm, ⟨59, _⟩ => ⟨S8x4096x16x64, .f32⟩
  | .hbm, ⟨60, _⟩ => ⟨S8x4096x16x64, .f32⟩
  | .hbm, ⟨61, _⟩ => ⟨S8x4096x1024, .f32⟩
  | .hbm, ⟨62, _⟩ => ⟨S8x4096x16x64, .f32⟩
  | .hbm, ⟨63, _⟩ => ⟨S32768x1024, .f32⟩
  | .hbm, ⟨64, _⟩ => ⟨S32768x1024, .f32⟩
  | .hbm, ⟨65, _⟩ => ⟨S32768x1024, .f32⟩
  | .hbm, ⟨66, _⟩ => ⟨S32768x3072, .f32⟩
  | .hbm, ⟨67, _⟩ => ⟨S32768x3072, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩

abbrev nD : Nat := 1
abbrev τ : Topo := Topo.v7x

variable {F : FTy → Type} [FloatOps F]
-- ==== Kernel3.lean ====
abbrev S8x4096x1024 : Shape := ⟨3, ![8, 4096, 1024]⟩
abbrev S1024 : Shape := ⟨1, ![1024]⟩
abbrev S1024x2048 : Shape := ⟨2, ![1024, 2048]⟩
abbrev S2x128x128 : Shape := ⟨3, ![2, 128, 128]⟩
abbrev S32768x1024 : Shape := ⟨2, ![32768, 1024]⟩
abbrev S1x1024 : Shape := ⟨2, ![1, 1024]⟩
abbrev S262144x128 : Shape := ⟨2, ![262144, 128]⟩
abbrev S16x128x32768 : Shape := ⟨3, ![16, 128, 32768]⟩
abbrev S32768x512 : Shape := ⟨2, ![32768, 512]⟩
abbrev S512x1024 : Shape := ⟨2, ![512, 1024]⟩
abbrev S4096x128 : Shape := ⟨2, ![4096, 128]⟩
abbrev S16x128x512 : Shape := ⟨3, ![16, 128, 512]⟩
abbrev S512x512 : Shape := ⟨2, ![512, 512]⟩
abbrev S512 : Shape := ⟨1, ![512]⟩
abbrev S512x1 : Shape := ⟨2, ![512, 1]⟩
abbrev S512x128 : Shape := ⟨2, ![512, 128]⟩
abbrev S512x2048 : Shape := ⟨2, ![512, 2048]⟩
abbrev S1x128x128 : Shape := ⟨3, ![1, 128, 128]⟩
abbrev S128x128 : Shape := ⟨2, ![128, 128]⟩
abbrev S128x512 : Shape := ⟨2, ![128, 512]⟩
abbrev S1x128x512 : Shape := ⟨3, ![1, 128, 512]⟩

abbrev nBuf : Space → Nat
  | .hbm => 11
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x2048, .f32⟩
  | .hbm, ⟨3, _⟩ => ⟨S2x128x128, .f32⟩
  | .hbm, ⟨4, _⟩ => ⟨S32768x1024, .f32⟩
  | .hbm, ⟨5, _⟩ => ⟨S1x1024, .f32⟩
  | .hbm, ⟨6, _⟩ => ⟨S1024x2048, .bf16⟩
  | .hbm, ⟨7, _⟩ => ⟨S2x128x128, .bf16⟩
  | .hbm, ⟨8, _⟩ => ⟨S262144x128, .i32⟩
  | .hbm, ⟨9, _⟩ => ⟨S16x128x32768, .f32⟩
  | .hbm, ⟨10, _⟩ => ⟨S32768x512, .i32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S2x128x128, .bf16⟩
  | .local _ .vmem, ⟨5, _⟩ => ⟨S4096x128, .i32⟩
  | .local _ .vmem, ⟨6, _⟩ => ⟨S4096x128, .i32⟩
  | .local _ .vmem, ⟨7, _⟩ => ⟨S16x128x512, .f32⟩
  | .local _ .vmem, ⟨8, _⟩ => ⟨S16x128x512, .f32⟩
  | .local _ .vmem, ⟨9, _⟩ => ⟨S512x512, .i32⟩
  | .local _ .vmem, ⟨10, _⟩ => ⟨S512x512, .i32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel3Ideal.lean ====
abbrev S8x4096x1024 : Shape := ⟨3, ![8, 4096, 1024]⟩
abbrev S1024 : Shape := ⟨1, ![1024]⟩
abbrev S1024x2048 : Shape := ⟨2, ![1024, 2048]⟩
abbrev S2x128x128 : Shape := ⟨3, ![2, 128, 128]⟩
abbrev S32768x1024 : Shape := ⟨2, ![32768, 1024]⟩
abbrev S1x1024 : Shape := ⟨2, ![1, 1024]⟩
abbrev S262144x2x128 : Shape := ⟨3, ![262144, 2, 128]⟩
abbrev S16x128x32768 : Shape := ⟨3, ![16, 128, 32768]⟩
abbrev S32768x2x512 : Shape := ⟨3, ![32768, 2, 512]⟩
abbrev S262144x1x128 : Shape := ⟨3, ![262144, 1, 128]⟩
abbrev S262144x128 : Shape := ⟨2, ![262144, 128]⟩
abbrev S32768x1x512 : Shape := ⟨3, ![32768, 1, 512]⟩
abbrev S32768x512 : Shape := ⟨2, ![32768, 512]⟩
abbrev S512x1024 : Shape := ⟨2, ![512, 1024]⟩
abbrev S4096x128 : Shape := ⟨2, ![4096, 128]⟩
abbrev S4096x2x128 : Shape := ⟨3, ![4096, 2, 128]⟩
abbrev S4096x1x128 : Shape := ⟨3, ![4096, 1, 128]⟩
abbrev S16x128x512 : Shape := ⟨3, ![16, 128, 512]⟩
abbrev S512x512 : Shape := ⟨2, ![512, 512]⟩
abbrev S512x2x512 : Shape := ⟨3, ![512, 2, 512]⟩
abbrev S512x1x512 : Shape := ⟨3, ![512, 1, 512]⟩
abbrev S512 : Shape := ⟨1, ![512]⟩
abbrev S512x1 : Shape := ⟨2, ![512, 1]⟩
abbrev S512x128 : Shape := ⟨2, ![512, 128]⟩
abbrev S512x2x128 : Shape := ⟨3, ![512, 2, 128]⟩
abbrev S512x1x128 : Shape := ⟨3, ![512, 1, 128]⟩
abbrev S512x2048 : Shape := ⟨2, ![512, 2048]⟩
abbrev S1x128x128 : Shape := ⟨3, ![1, 128, 128]⟩
abbrev S128x128 : Shape := ⟨2, ![128, 128]⟩
abbrev S128x512 : Shape := ⟨2, ![128, 512]⟩
abbrev S1x128x512 : Shape := ⟨3, ![1, 128, 512]⟩

abbrev nBuf : Space → Nat
  | .hbm => 11
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x2048, .f32⟩
  | .hbm, ⟨3, _⟩ => ⟨S2x128x128, .f32⟩
  | .hbm, ⟨4, _⟩ => ⟨S32768x1024, .f32⟩
  | .hbm, ⟨5, _⟩ => ⟨S1x1024, .f32⟩
  | .hbm, ⟨6, _⟩ => ⟨S1024x2048, .bf16⟩
  | .hbm, ⟨7, _⟩ => ⟨S2x128x128, .bf16⟩
  | .hbm, ⟨8, _⟩ => ⟨S262144x2x128, .bf16⟩
  | .hbm, ⟨9, _⟩ => ⟨S16x128x32768, .f32⟩
  | .hbm, ⟨10, _⟩ => ⟨S32768x2x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S2x128x128, .bf16⟩
  | .local _ .vmem, ⟨5, _⟩ => ⟨S4096x2x128, .bf16⟩
  | .local _ .vmem, ⟨6, _⟩ => ⟨S4096x2x128, .bf16⟩
  | .local _ .vmem, ⟨7, _⟩ => ⟨S16x128x512, .f32⟩
  | .local _ .vmem, ⟨8, _⟩ => ⟨S16x128x512, .f32⟩
  | .local _ .vmem, ⟨9, _⟩ => ⟨S512x2x512, .bf16⟩
  | .local _ .vmem, ⟨10, _⟩ => ⟨S512x2x512, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x2x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S8x4096x1024 : Shape := ⟨3, ![8, 4096, 1024]⟩
abbrev S1024 : Shape := ⟨1, ![1024]⟩
abbrev S1024x2048 : Shape := ⟨2, ![1024, 2048]⟩
abbrev S2x128x128 : Shape := ⟨3, ![2, 128, 128]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2048 : Shape := ⟨3, ![8, 4096, 2048]⟩
abbrev S32768x8x2x128 : Shape := ⟨4, ![32768, 8, 2, 128]⟩
abbrev S2x128x32768x8 : Shape := ⟨4, ![2, 128, 32768, 8]⟩
abbrev S8x2x128x32768 : Shape := ⟨4, ![8, 2, 128, 32768]⟩
abbrev S16x128x32768 : Shape := ⟨3, ![16, 128, 32768]⟩

abbrev nBuf : Space → Nat
  | .hbm => 26
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x2048, .f32⟩
  | .hbm, ⟨3, _⟩ => ⟨S2x128x128, .f32⟩
  | .hbm, ⟨4, _⟩ => ⟨S8x4096x1024, .f32⟩
  | .hbm, ⟨5, _⟩ => ⟨S_, .f32⟩
  | .hbm, ⟨6, _⟩ => ⟨S8x4096, .f32⟩
  | .hbm, ⟨7, _⟩ => ⟨S8x4096x1, .f32⟩
  | .hbm, ⟨8, _⟩ => ⟨S_, .f32⟩
  | .hbm, ⟨9, _⟩ => ⟨S8x4096x1, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S8x4096x1, .f32⟩
  | .hbm, ⟨15, _⟩ => ⟨S8x4096x1024, .f32⟩
  | .hbm, ⟨16, _⟩ => ⟨S8x4096x1024, .f32⟩
  | .hbm, ⟨17, _⟩ => ⟨S1x1x1024, .f32⟩
  | .hbm, ⟨18, _⟩ => ⟨S8x4096x1024, .f32⟩
  | .hbm, ⟨19, _⟩ => ⟨S8x4096x1024, .f32⟩
  | .hbm, ⟨20, _⟩ => ⟨S8x4096x2048, .f32⟩
  | .hbm, ⟨21, _⟩ => ⟨S32768x8x2x128, .f32⟩
  | .hbm, ⟨22, _⟩ => ⟨S2x128x32768x8, .f32⟩
  | .hbm, ⟨23, _⟩ => ⟨S32768x8x2x128, .f32⟩
  | .hbm, ⟨24, _⟩ => ⟨S8x2x128x32768, .f32⟩
  | .hbm, ⟨25, _⟩ => ⟨S16x128x32768, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Proof.RefRun.lean ====
/- The reference's generated run, stated over the generated trip of its loop: a valuation that holds a state holds the next
   one after a trip, and the result is what the operations after the loop make of state number 4096. -/
module

public import proofs.«01_k».proof.Proof.Gen.ReferenceIdeal.Run
public import proofs.«01_k».proof.Proof.Gen.ReferenceIdeal.Step

@[expose] public section

noncomputable section

namespace Cert.ReferenceIdeal.Trips

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_3 : V0 (Proc.devRef .tc main_v92_3) = s.main_v92_3
  f_4 : V0 (Proc.devRef .tc main_v92_4) = s.main_v92_4
  f_0 : V0 (Proc.devRef .tc main_v92_0) = s.main_v92_0
  f_1 : V0 (Proc.devRef .tc main_v92_1) = s.main_v92_1
  n_2 : V0 (Proc.devRef .tc main_v92_2) = constantI S_ 32 (BitVec.ofNat 32 j)

variable {V0 s j}

set_option maxRecDepth 8192 in
theorem al_0 (h : Holds V0 s j) : (constantI S_ 32 0#32 : (Proc.devRef .tc main_while0b_call2_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call2_c_0 : DevRef τ sig).ty.Contents (Elt F)) = Cert.ReferenceIdeal.Step.b1 j s := by
  unfold Cert.ReferenceIdeal.Step.b1
  rfl
set_option maxRecDepth 8192 in
theorem al_2 (h : Holds V0 s j) : (Host.dynamicSlice S1x8x1024 (V0 (Proc.devRef .tc main_v92_0)) (fun k => (((![V0 (Proc.devRef .tc main_v92_2), constantI S_ 32 0#32, constantI S_ 32 0#32] : Fin 3 → (⟨S_, .i32⟩ : BufTy).Contents (Elt F))) k (Shape.Idx.first h_S_)).toInt) sliceFits_S4096x8x1024_S1x8x1024 : (Proc.devRef .tc main_while0b_call2_v0 : DevRef τ sig).ty.Contents (Elt F)) = Cert.ReferenceIdeal.Step.b2 j s := by
  unfold Cert.ReferenceIdeal.Step.b2
  rw [← al_0 h, ← al_1 h, h.f_0, h.n_2]
  try rfl
set_option maxRecDepth 8192 in
theorem al_3 (h : Holds V0 s j) : (shapeCast S8x1024 (Host.dynamicSlice S1x8x1024 (V0 (Proc.devRef .tc main_v92_0)) (fun k => (((![V0 (Proc.devRef .tc main_v92_2), constantI S_ 32 0#32, constantI S_ 32 0#32] : Fin 3 → (⟨S_, .i32⟩ : BufTy).Contents (Elt F))) k (Shape.Idx.first h_S_)).toInt) sliceFits_S4096x8x1024_S1x8x1024) shapeCasts_S1x8x1024_S8x1024 : (Proc.devRef .tc main_while0b_v125 : DevRef τ sig).ty.Contents (Elt F)) = Cert.ReferenceIdeal.Step.b3 j s := by
  unfold Cert.ReferenceIdeal.Step.b3
  rw [← al_2 h]
  try rfl
set_option maxRecDepth 8192 in
theorem al_4 (h : Holds V0 s j) : (constantI S_ 32 0#32 : (Proc.devRef .tc main_while0b_call3_c : DevRef τ sig).ty.Contents (Elt F)) = Cert.ReferenceIdeal.Step.b4 j s := by
  unfold Cert.ReferenceIdeal.Step.b4
  rfl
set_option maxRecDepth 8192 in
theorem al_5 (h : Holds V0 s j) : (constantI S_ 32 0#32 : (Proc.devRef .tc main_while0b_call3_c_0 : DevRef τ sig).ty.Contents (Elt F)) = Cert.ReferenceIdeal.Step.b5 j s := by
  unfold Cert.ReferenceIdeal.Step.b5
  rfl
set_option maxRecDepth 8192 in
theorem al_6 (h : Holds V0 s j) : (Host.dynamicSlice S1x8x1024 (V0 (Proc.devRef .tc main_v92_1)) (fun k => (((![V0 (Proc.devRef .tc main_v92_2), constantI S_ 32 0#32, constantI S_ 32 0#32] : Fin 3 → (⟨S_, .i32⟩ : BufTy).Contents (Elt F))) k (Shape.Idx.first h_S_)).toInt) sliceFits_S4096x8x1024_S1x8x1024 : (Proc.devRef .tc main_while0b_call3_v0 : DevRef τ sig).ty.Contents (Elt F)) = Cert.ReferenceIdeal.Step.b6 j s := by
  unfold Cert.ReferenceIdeal.Step.b6
  rw [← al_4 h, ← al_5 h, h.f_1, h.n_2]
  try rfl
set_option maxRecDepth 8192 in
theorem al_7 (h : Holds V0 s j) : (shapeCast S8x1024 (Host.dynamicSlice S1x8x1024 (V0 (Proc.devRef .tc main_v92_1)) (fun k => (((![V0 (Proc.devRef .tc main_v92_2), constantI S_ 32 0#32, constantI S_ 32 0#32] : Fin 3 → (⟨S_, .i32⟩ : BufTy).Contents (Elt F))) k (Shape.Idx.first h_S_)).toInt) sliceFits_S4096x8x1024_S1x8x1024) shapeCasts_S1x8x1024_S8x1024 : (Proc.devRef .tc main_while0b_v126 : DevRef τ sig).ty.Contents (Elt F)) = Cert.ReferenceIdeal.Step.b7 j s := by
  unfold Cert.ReferenceIdeal.Step.b7
  rw [← al_6 h]
  try rfl
set_option maxRecDepth 8192 in
theorem al_8 (h : Holds V0 s j) : (mulf (shapeCast S8x1024 (Host.dynamicSlice S1x8x1024 (V0 (Proc.devRef .tc main_v92_0)) (fun k => (((![V0 (Proc.devRef .tc main_v92_2), constantI S_ 32 0#32, constantI S_ 32 0#32] : Fin 3 → (⟨S_, .i32⟩ : BufTy).Contents (Elt F))) k (Shape.Idx.first h_S_)).toInt) sliceFits_S4096x8x1024_S1x8x1024) shapeCasts_S1x8x1024_S8x1024) (V0 (Proc.devRef .tc main_v92_3)) : (Proc.devRef .tc main_while0b_v127 : DevRef τ sig).ty.Contents (Elt F)) = Cert.ReferenceIdeal.Step.b8 j s := by
  unfold Cert.ReferenceIdeal.Step.b8
  rw [← al_3 h, h.f_3]
  try rfl
set_option maxRecDepth 8192 in
theorem al_9 (h : Holds V0 s j) : (res_main_while0b_v128 V0 : (Proc.devRef .tc main_while0b_v128 : DevRef τ sig).ty.Contents (Elt F)) = Cert.ReferenceIdeal.Step.b9 j s := by
  unfold res_main_while0b_v128 Cert.ReferenceIdeal.Step.b9
  rw [← al_8 h, ← al_7 h]
  try rfl
set_option maxRecDepth 8192 in
theorem al_10 (h : Holds V0 s j) : (broadcastInDim S1x8x1024 ![1, 2] bcast_S8x1024_S1x8x1024_1_2 (res_main_while0b_v128 V0) : (Proc.devRef .tc main_while0b_call4_v0 : DevRef τ sig).ty.Contents (Elt F)) = Cert.ReferenceIdeal.Step.b10 j s := by
  unfold Cert.ReferenceIdeal.Step.b10
  rw [← al_9 h]
  try rfl
set_option maxRecDepth 8192 in
theorem al_11 (h : Holds V0 s j) : (constantI S_ 32 0#32 : (Proc.devRef .tc main_while0b_call4_c : DevRef τ sig).ty.Contents (Elt F)) = Cert.ReferenceIdeal.Step.b11 j s := by
  unfold Cert.ReferenceIdeal.Step.b11
  rfl
set_option maxRecDepth 8192 in
theorem al_12 (h : Holds V0 s j) : (constantI S_ 32 0#32 : (Proc.devRef .tc main_while0b_call4_c_0 : DevRef τ sig).ty.Contents (Elt F)) = Cert.ReferenceIdeal.Step.b12 j s := by
  unfold Cert.ReferenceIdeal.Step.b12
  rfl
set_option maxRecDepth 8192 in
theorem al_13 (h : Holds V0 s j) : (Host.dynamicUpdateSlice (V0 (Proc.devRef .tc main_v92_4)) (broadcastInDim S1x8x1024 ![1, 2] bcast_S8x1024_S1x8x1024_1_2 (res_main_while0b_v128 V0)) (fun k => (((![V0 (Proc.devRef .tc main_v92_2), constantI S_ 32 0#32, constantI S_ 32 0#32] : Fin 3 → (⟨S_, .i32⟩ : BufTy).Contents (Elt F))) k (Shape.Idx.first h_S_)).toInt) updateFits_S4096x8x1024_S1x8x1024 : (Proc.devRef .tc main_while0b_v129 : DevRef τ sig).ty.Contents (Elt F)) = Cert.ReferenceIdeal.Step.b13 j s := by
  unfold Cert.ReferenceIdeal.Step.b13
  rw [← al_10 h, ← al_11 h, ← al_12 h, h.f_4, h.n_2]
  try rfl

/-! One trip's step of the carried values is `step`, field by field; a counter steps to the next number. -/

theorem step_3 (h : Holds V0 s j) : step_main_v92_3 V0 = (step j s).main_v92_3 := by
  unfold step_main_v92_3 Cert.ReferenceIdeal.Step.step
  show id (res_main_while0b_v128 V0) = _
  rw [al_9 h]
  try rfl
theorem step_4 (h : Holds V0 s j) : step_main_v92_4 V0 = (step j s).main_v92_4 := by
  unfold step_main_v92_4 Cert.ReferenceIdeal.Step.step
  show id (Host.dynamicUpdateSlice (V0 (Proc.devRef .tc main_v92_4)) (broadcastInDim S1x8x1024 ![1, 2] bcast_S8x1024_S1x8x1024_1_2 (res_main_while0b_v128 V0)) (fun k => (((![V0 (Proc.devRef .tc main_v92_2), constantI S_ 32 0#32, constantI S_ 32 0#32] : Fin 3 → (⟨S_, .i32⟩ : BufTy).Contents (Elt F))) k (Shape.Idx.first h_S_)).toInt) updateFits_S4096x8x1024_S1x8x1024) = _
  exact al_13 h
theorem step_2 (h : Holds V0 s j) : step_main_v92_2 V0 = constantI S_ 32 (BitVec.ofNat 32 (j + 1)) := by
  unfold step_main_v92_2
  rw [h.n_2]
  funext i
  show BitVec.ofNat 32 j + 1#32 = BitVec.ofNat 32 (j + 1)
  simp only [BitVec.ofNat_add]

set_option maxRecDepth 8192 in
theorem out_main_v124_holds (h : Holds V0 s j) {x_main_arg0 : (⟨S8x4096x1024, .f32⟩ : BufTy).Contents (Elt F)} (h_main_arg0 : V0 (Proc.devRef .tc main_arg0) = x_main_arg0) {x_main_arg1 : (⟨S1024, .f32⟩ : BufTy).Contents (Elt F)} (h_main_arg1 : V0 (Proc.devRef .tc main_arg1) = x_main_arg1) {x_main_arg2 : (⟨S1024x2048, .f32⟩ : BufTy).Contents (Elt F)} (h_main_arg2 : V0 (Proc.devRef .tc main_arg2) = x_main_arg2) {x_main_arg10 : (⟨S1024x1024, .f32⟩ : BufTy).Contents (Elt F)} (h_main_arg10 : V0 (Proc.devRef .tc main_arg10) = x_main_arg10) : out_main_v124 V0 = Cert.ReferenceIdeal.Step.R_main_v124 s x_main_arg0 x_main_arg1 x_main_arg2 x_main_arg10 := by
  unfold out_main_v124 Cert.ReferenceIdeal.Step.R_main_v124
  rw [h.f_4, h_main_arg0, h_main_arg1, h_main_arg2, h_main_arg10]
  try rfl

/-- One trip keeps the valuation holding: `step` of the state, the same set-up values, the next number. -/
theorem holds_step (h : Holds V0 s j) : Holds (STEP V0) (step j s) (j + 1) where
  f_3 := (STEP_main_v92_3 V0).trans (step_3 h)
  f_4 := (STEP_main_v92_4 V0).trans (step_4 h)
  n_2 := (STEP_main_v92_2 V0).trans (step_2 h)
  f_0 := (STEP_main_v92_0 V0).trans h.f_0
  f_1 := (STEP_main_v92_1 V0).trans h.f_1

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

variable (m : (ℓ : Loc nD τ sig) → Buf (Elt F) ℓ) (c : Dev nD)

set_option maxRecDepth 65536 in
set_option maxHeartbeats 600000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 4096 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v124) = Cert.ReferenceIdeal.Step.R_main_v124 (it c 4096) (m ((c.tc : Thread nD τ).loc main_arg0)) (m ((c.tc : Thread nD τ).loc main_arg1)) (m ((c.tc : Thread nD τ).loc main_arg2)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
    have hk := holds_iter m c (it c) (h0 c) (hs c) 4096
    ⟨(h c).1.trans (out_main_v124_holds hk (iter_main_arg0 m c 4096) (iter_main_arg1 m c 4096) (iter_main_arg2 m c 4096) (iter_main_arg10 m c 4096)), (h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2⟩) (Value.run m ρ)

end Cert.ReferenceIdeal.Trips

end
-- ==== Proof.Cell.lean ====
/- What one grid point of the kernel computes, in words of its own: the two carried buffers (the last rows of the
   projected branch, for the convolution, and the recurrence's state) after a point, the gates, and the block
   written back. Over any float interpretation `F`. -/
module

public import proofs.«01_k».proof.Proof.Gen.KernelIdeal.Skeleton
public import Idealize.ShloMosaic.Lib.Pipeline.Kit
public import Idealize.ShloMosaic.Lib.Pointwise

@[expose] public section

set_option maxRecDepth 16384

noncomputable section

namespace Cert.KernelIdeal.Cell

open Cert.KernelIdeal Cert.KernelIdeal.Gen
open Idealize.ShloMosaic

variable {F : FTy → Type} [FloatOps F]

/-- Row `k` of a 256×1024 block, as a 1×1024 vector. -/
def rowOf (a : Vec F S256x1024 .f32) (k : Fin 256) : Vec F S1x1024 .f32 := fun j => a (ix2 k (j 1))

/-- The recurrence `h ↦ a_k · h + b_k` run over the first `k` rows of `a` and `b` from `h0`. -/
def hseq (a b : Vec F S256x1024 .f32) (h0 : Vec F S1x1024 .f32) : ℕ → Vec F S1x1024 .f32
  | 0 => h0
  | k + 1 => if h : k < 256 then k0_pay21 (hseq a b h0 k) (rowOf a ⟨k, h⟩) (rowOf b ⟨k, h⟩) else hseq a b h0 k

theorem hseq_succ (a b : Vec F S256x1024 .f32) (h0 : Vec F S1x1024 .f32) (k : ℕ) (h : k < 256) :
    hseq a b h0 (k + 1) = k0_pay21 (hseq a b h0 k) (rowOf a ⟨k, h⟩) (rowOf b ⟨k, h⟩) := by
  rw [hseq, dif_pos h]

/-- All 256 states of the recurrence, row `k` the state after step `k`. -/
def hsAll (a b : Vec F S256x1024 .f32) (h0 : Vec F S1x1024 .f32) : Vec F S256x1024 .f32 :=
  fun j => hseq a b h0 ((j 0).val + 1) (ix2 0 (j 1))

/-- The state carried to the next point: the first row replaced by the last state. -/
def hNext (h : Vec F S8x1024 .f32) (v : Vec F S1x1024 .f32) : Vec F S8x1024 .f32 :=
  fun j => if (j 0).val < 1 then v (ix2 0 (j 1)) else h j

/-- The first row of the state buffer. -/
def hInit (h : Vec F S8x1024 .f32) : Vec F S1x1024 .f32 := fun j => h (ix2 0 (j 1))

/-- The window buffer of the convolution: the eight rows kept from the point before, then this point's 256. -/
def extNext (e : Vec F S264x1024 .f32) (y : Vec F S256x1024 .f32) : Vec F S264x1024 .f32 :=
  fun j => if h : (j 0).val < 8 then e (ix2 ⟨256 + (j 0).val, by omega⟩ (j 1))
    else y (ix2 ⟨(j 0).val - 8, by have : (j 0).val < 264 := (j 0).isLt; omega⟩ (j 1))

/-- The convolution's weight row `k`. -/
def cwRow (x3 : Vec F S4x1024 .f32) (k : Fin 4) : Vec F S1x1024 .f32 := fun j => x3 (ix2 k (j 1))

/-- The 256 rows of the window buffer starting at row `5 + k`. -/
def tap (e : Vec F S264x1024 .f32) (k : Fin 4) : Vec F S256x1024 .f32 :=
  fun j => e (ix2 ⟨5 + k.val + (j 0).val, by have : (j 0).val < 256 := (j 0).isLt; omega⟩ (j 1))

/-- Head `g`'s 256×256 gate matrix. -/
def wHead (w : Vec F S4x256x256 .bf16) (g : Fin 4) : Vec F S1x256x256 .bf16 := fun j => w (ix3 g (j 1) (j 2))

section
variable (x3 : Vec F S4x1024 .f32) (x4 : Vec F S1x1024 .f32) (e : Vec F S264x1024 .f32)

/-- The convolved branch. -/
def convOf : Vec F S256x1024 .f32 :=
  k0_pay11 (k0_pay10 x4) (cwRow x3 0) (tap e 0) (cwRow x3 1) (tap e 1) (cwRow x3 2) (tap e 2) (cwRow x3 3) (tap e 3)

/-- The recurrence gate `r`. -/
def gateR (x5 : Vec F S4x256x256 .bf16) (x6 : Vec F S1x1024 .f32) : Vec F S256x1024 .f32 :=
  k0_pay16 (k0_pay12 (k0_pay10 x4) (cwRow x3 0) (tap e 0) (cwRow x3 1) (tap e 1) (cwRow x3 2) (tap e 2) (cwRow x3 3) (tap e 3))
    (k0_pay13 (k0_pay10 x4) (cwRow x3 0) (tap e 0) (cwRow x3 1) (tap e 1) (cwRow x3 2) (tap e 2) (cwRow x3 3) (tap e 3) (wHead x5 0))
    (k0_pay14 (k0_pay10 x4) (cwRow x3 0) (tap e 0) (cwRow x3 1) (tap e 1) (cwRow x3 2) (tap e 2) (cwRow x3 3) (tap e 3) (wHead x5 1))
    (k0_pay15 (k0_pay10 x4) (cwRow x3 0) (tap e 0) (cwRow x3 1) (tap e 1) (cwRow x3 2) (tap e 2) (cwRow x3 3) (tap e 3))
    (wHead x5 2) (wHead x5 3) x6

/-- The input gate before its logistic. -/
def gateI (x7 : Vec F S4x256x256 .bf16) (x8 : Vec F S1x1024 .f32) : Vec F S256x1024 .f32 :=
  k0_pay17 (k0_pay12 (k0_pay10 x4) (cwRow x3 0) (tap e 0) (cwRow x3 1) (tap e 1) (cwRow x3 2) (tap e 2) (cwRow x3 3) (tap e 3))
    (wHead x7 0) (wHead x7 1) (wHead x7 2) (wHead x7 3) x8

/-- The recurrence's coefficients `a`. -/
def aOf (x5 : Vec F S4x256x256 .bf16) (x6 : Vec F S1x1024 .f32) (x9 : Vec F S1x1024 .f32) : Vec F S256x1024 .f32 :=
  k0_pay19 (gateR x3 x4 e x5 x6) x9

/-- The recurrence's inputs `b`. -/
def bOf (x5 : Vec F S4x256x256 .bf16) (x6 : Vec F S1x1024 .f32) (x7 : Vec F S4x256x256 .bf16) (x8 : Vec F S1x1024 .f32)
    (x9 : Vec F S1x1024 .f32) : Vec F S256x1024 .f32 :=
  k0_pay20 (convOf x3 x4 e) (gateR x3 x4 e x5 x6) (gateI x3 x4 e x7 x8) x9
end

/-- The block written back: the residual plus the gated states times the output projection. -/
def outOf (x0 : Vec F S1x256x1024 .f32) (x1 : Vec F S1x1024 .f32) (x2 : Vec F S1024x2048 .bf16)
    (hs : Vec F S256x1024 .f32) (x10 : Vec F S1024x1024 .bf16) : Vec F S1x256x1024 .f32 :=
  k0_pay2 (k0_pay5 x0) (k0_pay7 x0 x1 x2) hs x10

end Cert.KernelIdeal.Cell

end
-- ==== Proof.CellRead.lean ====
/- Loads of a grid point read through the stores made before them: rows of the window buffer, of the convolution's
   weights, of the gate matrices and of the state buffer. -/
module

public import proofs.«01_k».proof.Proof.Cell
public import Idealize.ShloMosaic.Lib.WritesUnit
public import Idealize.ShloMosaic.Lib.VecWindow
public import Idealize.ShloMosaic.Lib.Pipeline.ReadBack

@[expose] public section

set_option maxRecDepth 16384

noncomputable section

namespace Cert.KernelIdeal.Cell

open Cert.KernelIdeal Cert.KernelIdeal.Gen
open Idealize.ShloMosaic

variable {F : FTy → Type} [FloatOps F] {sp : Space}

/-- After the two stores of the window buffer (rows 0 to 7, then rows 8 to 263) it holds `extNext`. -/
theorem read_ext (v : View sig .tc sp S264x1024 .f32) (f : v.ty.Contents (Elt F)) (e : Vec F S264x1024 .f32)
    (y : Vec F S256x1024 .f32) (p : Vec F S8x1024 .f32) (L : List (View.Piece (Elt F) S264x1024 .f32))
    (hp : ∀ j : S8x1024.Idx, p j = e (ix2 ⟨256 + (j 0).val, by have : (j 0).val < 8 := (j 0).isLt; omega⟩ (j 1))) :
    v.read (Elt F) (v.writes (Elt F) f (⟨Rect.unit (s := S264x1024) ![8, 0] S256x1024.size inb_S264x1024_S256x1024_8_0, y⟩
        :: ⟨Rect.unit (s := S264x1024) ![0, 0] S8x1024.size inb_S264x1024_S8x1024_0_0, p⟩ :: L)) = extNext e y := by
  funext j
  have hj : (j 0).val < 264 := (j 0).isLt
  unfold extNext
  split_ifs with h
  · refine (View.read_writes_cons_rows_of_not_mem (W := 256) v f _ y _ j rfl rfl (.inl h)).trans ?_
    refine (View.read_writes_cons_rows_of_mem v f _ p L j (ix2 ⟨(j 0).val, h⟩ (j 1)) rfl ?_ rfl).trans (hp _)
    show (j 0).val = 0 + (j 0).val
    omega
  · refine View.read_writes_cons_rows_of_mem v f _ y _ j (ix2 ⟨(j 0).val - 8, by omega⟩ (j 1)) rfl ?_ rfl
    show (j 0).val = 8 + ((j 0).val - 8)
    omega

/-- The eight rows kept from the point before, loaded from the window buffer's contents. -/
theorem keep_rows (e : Vec F S264x1024 .f32) (j : S8x1024.Idx) :
    k0_pay8 (View.ld e (Rect.unit (s := S264x1024) ![256, 0] S8x1024.size inb_S264x1024_S8x1024_256_0)) j
      = e (ix2 ⟨256 + (j 0).val, by have : (j 0).val < 8 := (j 0).isLt; omega⟩ (j 1)) := by
  unfold k0_pay8
  rw [show ∀ x : FVec F S8x1024 .f32, shapeCast S8x1024 x shapeCasts_S8x1024_S8x1024 = x from fun x => shapeCast_self x _]
  show e _ = e _
  congr 1
  funext a
  apply Fin.ext
  fin_cases a
  · show 256 + 1 * (j 0).val = 256 + (j 0).val
    omega
  · show 0 + 1 * (j 1).val = (j 1).val
    omega

/-- 256 rows of a window buffer from row `5 + k` on. -/
theorem ld_tap (e : Vec F S264x1024 .f32) (k : Fin 4) (off : Fin 2 → ℕ) (hoff : off = ![5 + k.val, 0])
    (inb : ∀ a, off a + S256x1024.size a ≤ S264x1024.size a) :
    View.ld e (Rect.unit (s := S264x1024) off S256x1024.size inb) = tap e k := by
  subst hoff
  funext j
  show e _ = e _
  congr 1
  funext a
  apply Fin.ext
  fin_cases a
  · show 5 + k.val + 1 * (j 0).val = 5 + k.val + (j 0).val
    omega
  · show 0 + 1 * (j 1).val = (j 1).val
    omega

/-- 256 rows of the window buffer from row `5 + k` on, loaded after its two stores. -/
theorem readCov_tap (v : View sig .tc sp S264x1024 .f32) (e : Vec F S264x1024 .f32)
    (y : Vec F S256x1024 .f32) (p : Vec F S8x1024 .f32) (L : List (View.Piece (Elt F) S264x1024 .f32))
    (hp : ∀ j : S8x1024.Idx, p j = e (ix2 ⟨256 + (j 0).val, by have : (j 0).val < 8 := (j 0).isLt; omega⟩ (j 1)))
    (k : Fin 4) (off : Fin 2 → ℕ) (hoff : off = ![5 + k.val, 0]) (inb : ∀ a, off a + S256x1024.size a ≤ S264x1024.size a) :
    v.readCov (⟨Rect.unit (s := S264x1024) ![8, 0] S256x1024.size inb_S264x1024_S256x1024_8_0, y⟩
        :: ⟨Rect.unit (s := S264x1024) ![0, 0] S8x1024.size inb_S264x1024_S8x1024_0_0, p⟩ :: L)
        (Rect.unit (s := S264x1024) off S256x1024.size inb).toLoadRect = tap (extNext e y) k := by
  rw [← ld_tap (extNext e y) k off hoff inb, ← read_ext v v.junk e y p L hp]
  rfl

/-- Row `k` of the convolution's weights. -/
theorem ld_cwRow (x3 : Vec F S4x1024 .f32) (k : Fin 4) (off : Fin 2 → ℕ) (hoff : off = ![k.val, 0])
    (inb : ∀ a, off a + S1x1024.size a ≤ S4x1024.size a) :
    View.ld x3 (Rect.unit (s := S4x1024) off S1x1024.size inb) = cwRow x3 k := by
  subst hoff
  funext j
  have h0 : (j 0).val = 0 := by have : (j 0).val < 1 := (j 0).isLt; omega
  show x3 _ = x3 _
  congr 1
  funext a
  apply Fin.ext
  fin_cases a
  · show k.val + 1 * (j 0).val = k.val
    omega
  · show 0 + 1 * (j 1).val = (j 1).val
    omega

/-- Head `g`'s gate matrix. -/
theorem ld_wHead (w : Vec F S4x256x256 .bf16) (g : Fin 4) (off : Fin 3 → ℕ) (hoff : off = ![g.val, 0, 0])
    (inb : ∀ a, off a + S1x256x256.size a ≤ S4x256x256.size a) :
    View.ld w (Rect.unit (s := S4x256x256) off S1x256x256.size inb) = wHead w g := by
  subst hoff
  funext j
  have h0 : (j 0).val = 0 := by have : (j 0).val < 1 := (j 0).isLt; omega
  show w _ = w _
  congr 1
  funext a
  apply Fin.ext
  fin_cases a
  · show g.val + 1 * (j 0).val = g.val
    omega
  · show 0 + 1 * (j 1).val = (j 1).val
    omega
  · show 0 + 1 * (j 2).val = (j 2).val
    omega

/-- The first row of the state buffer. -/
theorem ld_hInit (h : Vec F S8x1024 .f32) :
    View.ld h (Rect.unit (s := S8x1024) ![0, 0] S1x1024.size inb_S8x1024_S1x1024_0_0) = hInit h := by
  funext j
  have h0 : (j 0).val = 0 := by have : (j 0).val < 1 := (j 0).isLt; omega
  show h _ = h _
  congr 1
  funext a
  apply Fin.ext
  fin_cases a
  · show 0 + 1 * (j 0).val = 0
    omega
  · show 0 + 1 * (j 1).val = (j 1).val
    omega

/-- A store of the state buffer's first row over contents that read `h`. -/
theorem read_hNext (v : View sig .tc sp S8x1024 .f32) (f : v.ty.Contents (Elt F)) (h : Vec F S8x1024 .f32) (w : Vec F S1x1024 .f32)
    (L : List (View.Piece (Elt F) S8x1024 .f32)) (hf : v.read (Elt F) (v.writes (Elt F) f L) = h) :
    v.read (Elt F) (v.writes (Elt F) f (⟨Rect.unit (s := S8x1024) ![0, 0] S1x1024.size inb_S8x1024_S1x1024_0_0, w⟩ :: L)) = hNext h w := by
  funext j
  unfold hNext
  split_ifs with h1
  · refine View.read_writes_cons_rows_of_mem v f _ w L j (ix2 0 (j 1)) rfl ?_ rfl
    show (j 0).val = 0 + 0
    omega
  · refine (View.read_writes_cons_rows_of_not_mem (W := 1) v f _ w L j rfl rfl (.inr (by omega))).trans ?_
    rw [hf]

end Cert.KernelIdeal.Cell

end
-- ==== Proof.CellLoop.lean ====
/- The counted loop of a grid point, read: after `k` trips the carried value is the recurrence's state after `k` rows,
   and the rows of the state buffer below `k` are the states so far. -/
module

public import proofs.«01_k».proof.Proof.Cell
public import proofs.«01_k».proof.Proof.Gen.KernelIdeal.Frame
public import proofs.«01_k».proof.Proof.Gen.KernelIdeal.Loops
public import Idealize.ShloMosaic.Lib.WritesUnit
public import Idealize.ShloMosaic.Lib.VecWindow

@[expose] public section

set_option maxRecDepth 16384

noncomputable section

namespace Cert.KernelIdeal.Cell

open Cert.KernelIdeal Cert.KernelIdeal.Gen
open Idealize.ShloMosaic Idealize.ShloMosaic.TcCoe Idealize.ShloMosaic.Tactic

variable {F : FTy → Type} [FloatOps F]

section
variable (𝒱 : Variants) (c : Dev nD) (bd : Option 𝒱.V) (i : grid0.Coords) (arg2 : Memref sig .tc .vmem S1x256x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S4x1024 .f32) (harg5 : arg5.IsWhole) (arg6 : Memref sig .tc .vmem S1x1024 .f32) (harg6 : arg6.IsWhole) (arg7 : Memref sig .tc .vmem S4x256x256 .bf16) (harg7 : arg7.IsWhole) (arg8 : Memref sig .tc .vmem S1x1024 .f32) (harg8 : arg8.IsWhole) (arg9 : Memref sig .tc .vmem S4x256x256 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1x256x1024 .f32) (harg13 : arg13.IsWhole) (arg14 : Memref sig .tc .vmem S264x1024 .f32) (harg14 : arg14.IsWhole) (arg15 : Memref sig .tc .vmem S8x1024 .f32) (harg15 : arg15.IsWhole) (arg16 : Memref sig .tc .vmem S256x1024 .f32) (harg16 : arg16.IsWhole) (arg17 : Memref sig .tc .vmem S256x1024 .f32) (harg17 : arg17.IsWhole) (arg18 : Memref sig .tc .vmem S256x1024 .f32) (harg18 : arg18.IsWhole) (v56 v79 v100 : FVec F S256x1024 .f32)
  (X16 : BufTy.Contents (Elt F) arg16.view.ty) (X17 : BufTy.Contents (Elt F) arg17.view.ty)

/-- What a trip yields: one step of the recurrence. -/
theorem tripR_eq (k : Fin k0_t1_loop.trips) (acc : Vec F S1x1024 .f32) :
    tripR_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v56 v79 v100 X16 X17 k acc
      = k0_pay21 acc (View.readAt (Elt F) arg16.view (Rect.unit (s := S256x1024) (k0_off1 k) S1x1024.size (k0_off1_inb k)).toLoadRect X16)
          (View.readAt (Elt F) arg17.view (Rect.unit (s := S256x1024) (k0_off1 k) S1x1024.size (k0_off1_inb k)).toLoadRect X17) := by
  unfold tripR_k0_t1 trip_k0_t1
  rfl

/-- What a trip stores: the step's result, in its row. -/
theorem tripL_eq (k : Fin k0_t1_loop.trips) (acc : Vec F S1x1024 .f32) :
    tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v56 v79 v100 X16 X17 k acc
      = [⟨Rect.unit (s := S256x1024) (k0_off1 k) S1x1024.size (k0_off1_inb k),
          k0_pay22 acc (View.readAt (Elt F) arg16.view (Rect.unit (s := S256x1024) (k0_off1 k) S1x1024.size (k0_off1_inb k)).toLoadRect X16)
          (View.readAt (Elt F) arg17.view (Rect.unit (s := S256x1024) (k0_off1 k) S1x1024.size (k0_off1_inb k)).toLoadRect X17)⟩] := by
  unfold tripL_k0_t1 trip_k0_t1
  rfl

/-- The loop makes 256 trips. -/
theorem trips_eq : k0_t1_loop.trips = 256 := by decide +kernel

/-- Trip `k` addresses row `k`. -/
theorem off_eq : ∀ k : Fin k0_t1_loop.trips, k0_off1 k = ![k.val, 0] := by decide +kernel

/-- A trip's load reads its row of the buffer. -/
theorem load_row {sp : Space} (v : View sig .tc sp S256x1024 .f32) (X : v.ty.Contents (Elt F)) (k : Fin k0_t1_loop.trips) :
    View.readAt (Elt F) v (Rect.unit (s := S256x1024) (k0_off1 k) S1x1024.size (k0_off1_inb k)).toLoadRect X
      = rowOf (v.read (Elt F) X) (k.cast trips_eq) := by
  funext j
  rw [View.readAt_apply]
  show v.read (Elt F) X _ = v.read (Elt F) X _
  congr 1
  have h0 : (j 0).val = 0 := by have : (j 0).val < 1 := (j 0).isLt; omega
  funext a
  apply Fin.ext
  have e : k0_off1 k a = (![k.val, 0] : Fin 2 → ℕ) a := congrFun (off_eq k) a
  show k0_off1 k a + 1 * (j a).val = _
  refine (congrArg (· + 1 * (j a).val) e).trans ?_
  fin_cases a
  · show k.val + 1 * (j 0).val = k.val
    omega
  · show 0 + 1 * (j 1).val = (j 1).val
    omega

/-- A trip's store replaces its row and leaves the others. -/
theorem store_row {sp : Space} (v : View sig .tc sp S256x1024 .f32) (f : v.ty.Contents (Elt F)) (k : Fin k0_t1_loop.trips)
    (w : Vec F S1x1024 .f32) (L : List (View.Piece (Elt F) S256x1024 .f32)) (j : S256x1024.Idx) :
    v.read (Elt F) (v.writes (Elt F) f (⟨Rect.unit (s := S256x1024) (k0_off1 k) S1x1024.size (k0_off1_inb k), w⟩ :: L)) j
      = if (j 0).val = k.val then w (ix2 0 (j 1)) else v.read (Elt F) (v.writes (Elt F) f L) j := by
  split_ifs with h
  · exact View.read_writes_cons_rows_of_mem v f (k0_off1_inb k) w L j (ix2 0 (j 1)) (off_eq k)
      (by show (j 0).val = k.val + 0; omega) rfl
  · exact View.read_writes_cons_rows_of_not_mem (W := 1) v f (k0_off1_inb k) w L j (off_eq k) rfl (by omega)

/-- Before trip `n` the carried value is the recurrence's state after `n` rows, and the stored rows below `n` are the
    states, whatever the buffer held. -/
theorem st_eq (init : Vec F S1x1024 .f32) (n : ℕ) (hn : n ≤ 256) :
    (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v56 v79 v100 X16 X17 init n).1
        = hseq (arg16.view.read (Elt F) X16) (arg17.view.read (Elt F) X17) init n
      ∧ ∀ (f : BufTy.Contents (Elt F) arg18.view.ty) (j : S256x1024.Idx), (j 0).val < n →
        arg18.view.read (Elt F) (arg18.view.writes (Elt F) f
            (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v56 v79 v100 X16 X17 init n).2) j
          = hsAll (arg16.view.read (Elt F) X16) (arg17.view.read (Elt F) X17) init j := by
  induction n with
  | zero => exact ⟨rfl, fun f j h => absurd h (Nat.not_lt_zero _)⟩
  | succ n ih =>
    obtain ⟨ih1, ih2⟩ := ih (by omega)
    have hk : n < k0_t1_loop.trips := by rw [trips_eq]; omega
    have hs := st_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v56 v79 v100 X16 X17 init ⟨n, hk⟩
    rw [hs]
    dsimp only
    rw [tripR_eq, tripL_eq, load_row, load_row, ih1]
    have e1 : k0_pay21 (hseq (arg16.view.read (Elt F) X16) (arg17.view.read (Elt F) X17) init n)
        (rowOf (arg16.view.read (Elt F) X16) (Fin.cast trips_eq ⟨n, hk⟩))
        (rowOf (arg17.view.read (Elt F) X17) (Fin.cast trips_eq ⟨n, hk⟩))
        = hseq (arg16.view.read (Elt F) X16) (arg17.view.read (Elt F) X17) init (n + 1) :=
      (hseq_succ _ _ _ n (by omega)).symm
    refine ⟨e1, fun f j hj => ?_⟩
    have e2 : k0_pay22 (hseq (arg16.view.read (Elt F) X16) (arg17.view.read (Elt F) X17) init n)
        (rowOf (arg16.view.read (Elt F) X16) (Fin.cast trips_eq ⟨n, hk⟩))
        (rowOf (arg17.view.read (Elt F) X17) (Fin.cast trips_eq ⟨n, hk⟩))
        = hseq (arg16.view.read (Elt F) X16) (arg17.view.read (Elt F) X17) init (n + 1) := by
      rw [← e1]; unfold k0_pay22; exact shapeCast_self _ _
    rw [e2, List.singleton_append, store_row]
    split_ifs with h
    · have h' : (j 0).val = n := h
      show _ = hseq _ _ _ _ _
      rw [h']
    · exact ih2 f j (by have h' : (j 0).val ≠ n := h; omega)

/-- After the loop, the loaded state buffer is all the recurrence's states. -/
theorem loop_states (init : Vec F S1x1024 .f32) (n : ℕ) (hn : n = 256) (A B : Vec F S256x1024 .f32) (I : Vec F S1x1024 .f32)
    (hA : arg16.view.read (Elt F) X16 = A) (hB : arg17.view.read (Elt F) X17 = B) (hI : init = I)
    (f : BufTy.Contents (Elt F) arg18.view.ty) :
    View.readAt (Elt F) arg18.view (Rect.unit (s := S256x1024) ![0, 0] S256x1024.size inb_S256x1024_S256x1024_0_0).toLoadRect
      (arg18.view.writes (Elt F) f (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v56 v79 v100 X16 X17 init n).2) = hsAll A B I := by
  subst hn hA hB hI
  funext j
  exact (congrFun (View.readAt_full ..) j).trans ((st_eq (hn := le_rfl) ..).2 f j (j 0).isLt)

/-- After the loop, the carried value is the recurrence's last state. -/
theorem loop_last (init : Vec F S1x1024 .f32) (n : ℕ) (hn : n = 256) (A B : Vec F S256x1024 .f32) (I : Vec F S1x1024 .f32)
    (hA : arg16.view.read (Elt F) X16 = A) (hB : arg17.view.read (Elt F) X17 = B) (hI : init = I) :
    (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v56 v79 v100 X16 X17 init n).1 = hseq A B I 256 := by
  subst hn hA hB hI
  exact (st_eq (hn := le_rfl) ..).1

end

end Cert.KernelIdeal.Cell

end
-- ==== Proof.RunB.lean ====
module

public import proofs.«01_k».proof.Proof.CellRead
public import proofs.«01_k».proof.Proof.CellLoop

@[expose] public section

set_option maxRecDepth 16384

noncomputable section

namespace Cert.KernelIdeal.Body

open Cert.KernelIdeal Cert.KernelIdeal.Gen Cert.KernelIdeal.Cell
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The reset's condition at a grid point: the second coordinate is zero. -/
abbrev cond0_0 (i : grid0.Coords) : Prop := (Scalar.cmpi .ne (Scalar.extui (Scalar.cmpi .eq (BitVec.ofNat 32 (i 1).val) 0#32)) 0#32) = 1#1

set_option maxHeartbeats 1000000 in
/-- The body at a point that continues from the point before: what it leaves in its output block and in the two carried buffers. -/
theorem run_B (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S4x1024 .f32) (harg5 : arg5.IsWhole) (arg6 : Memref sig .tc .vmem S1x1024 .f32) (harg6 : arg6.IsWhole) (arg7 : Memref sig .tc .vmem S4x256x256 .bf16) (harg7 : arg7.IsWhole) (arg8 : Memref sig .tc .vmem S1x1024 .f32) (harg8 : arg8.IsWhole) (arg9 : Memref sig .tc .vmem S4x256x256 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1x256x1024 .f32) (harg13 : arg13.IsWhole) (arg14 : Memref sig .tc .vmem S264x1024 .f32) (harg14 : arg14.IsWhole) (arg15 : Memref sig .tc .vmem S8x1024 .f32) (harg15 : arg15.IsWhole) (arg16 : Memref sig .tc .vmem S256x1024 .f32) (harg16 : arg16.IsWhole) (arg17 : Memref sig .tc .vmem S256x1024 .f32) (harg17 : arg17.IsWhole) (arg18 : Memref sig .tc .vmem S256x1024 .f32) (harg18 : arg18.IsWhole) (hc0 : ¬cond0_0 i)
    (x0 : Vec F S1x256x1024 .f32) (x1 : Vec F S1x1024 .f32) (x2 : Vec F S1024x2048 .bf16) (x3 : Vec F S4x1024 .f32) (x4 : Vec F S1x1024 .f32) (x5 : Vec F S4x256x256 .bf16) (x6 : Vec F S1x1024 .f32) (x7 : Vec F S4x256x256 .bf16) (x8 : Vec F S1x1024 .f32) (x9 : Vec F S1x1024 .f32) (x10 : Vec F S1024x1024 .bf16) (xs0 : Vec F S264x1024 .f32) (xs1 : Vec F S8x1024 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare xs0 ∗ owns (c : Thread nD τ) arg15 fullShare xs1 ∗ (∃ d, owns (c : Thread nD τ) arg16 fullShare d) ∗ (∃ d, owns (c : Thread nD τ) arg17 fullShare d) ∗ (∃ d, owns (c : Thread nD τ) arg18 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10
          ∗ owns (c : Thread nD τ) arg13 fullShare (outOf x0 x1 x2 (hsAll (aOf x3 x4 (extNext xs0 (k0_pay9 x0 x1 x2)) x5 x6 x9) (bOf x3 x4 (extNext xs0 (k0_pay9 x0 x1 x2)) x5 x6 x7 x8 x9) (hInit xs1)) x10)
          ∗ owns (c : Thread nD τ) arg14 fullShare (extNext xs0 (k0_pay9 x0 x1 x2))
          ∗ owns (c : Thread nD τ) arg15 fullShare (hNext xs1 (hseq (aOf x3 x4 (extNext xs0 (k0_pay9 x0 x1 x2)) x5 x6 x9) (bOf x3 x4 (extNext xs0 (k0_pay9 x0 x1 x2)) x5 x6 x7 x8 x9) (hInit xs1) 256))
          ∗ (∃ d, owns (c : Thread nD τ) arg16 fullShare d) ∗ (∃ d, owns (c : Thread nD τ) arg17 fullShare d) ∗ (∃ d, owns (c : Thread nD τ) arg18 fullShare d)) -∗ K ⟨⟩))
      ⊢ wp frame (wpE (defs₀ (F := F)) Variants.none c none) E (cc0_rglru_mixer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_rglru_mixer_eq_skeleton]; unfold cc0_rglru_mixer_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs0, %hfs0, HS0⟩, ⟨%fs1, %hfs1, HS1⟩, ⟨%ds2, %fs2, -, HS2⟩, ⟨%ds3, %fs3, -, HS3⟩, ⟨%ds4, %fs4, -, HS4⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg14.eq_unread hfs0; obtain rfl := harg15.eq_unread hfs1
  have h2 : View.readAt (Elt F) arg2.view (Rect.unit (s := S1x256x1024) ![0, 0, 0] S1x256x1024.size inb_S1x256x1024_S1x256x1024_0_0_0).toLoadRect (harg2.unread x0) = x0 :=
    (View.readAt_full ..).trans (harg2.read_unread x0)
  have h3 : View.readAt (Elt F) arg3.view (Rect.unit (s := S1x1024) ![0, 0] S1x1024.size inb_S1x1024_S1x1024_0_0).toLoadRect (harg3.unread x1) = x1 :=
    (View.readAt_full ..).trans (harg3.read_unread x1)
  have h4 : View.readAt (Elt F) arg4.view (Rect.unit (s := S1024x2048) ![0, 0] S1024x2048.size inb_S1024x2048_S1024x2048_0_0).toLoadRect (harg4.unread x2) = x2 :=
    (View.readAt_full ..).trans (harg4.read_unread x2)
  have h6 : View.readAt (Elt F) arg6.view (Rect.unit (s := S1x1024) ![0, 0] S1x1024.size inb_S1x1024_S1x1024_0_0).toLoadRect (harg6.unread x4) = x4 :=
    (View.readAt_full ..).trans (harg6.read_unread x4)
  have h8 : View.readAt (Elt F) arg8.view (Rect.unit (s := S1x1024) ![0, 0] S1x1024.size inb_S1x1024_S1x1024_0_0).toLoadRect (harg8.unread x6) = x6 :=
    (View.readAt_full ..).trans (harg8.read_unread x6)
  have h10 : View.readAt (Elt F) arg10.view (Rect.unit (s := S1x1024) ![0, 0] S1x1024.size inb_S1x1024_S1x1024_0_0).toLoadRect (harg10.unread x8) = x8 :=
    (View.readAt_full ..).trans (harg10.read_unread x8)
  have h11 : View.readAt (Elt F) arg11.view (Rect.unit (s := S1x1024) ![0, 0] S1x1024.size inb_S1x1024_S1x1024_0_0).toLoadRect (harg11.unread x9) = x9 :=
    (View.readAt_full ..).trans (harg11.read_unread x9)
  have h12 : View.readAt (Elt F) arg12.view (Rect.unit (s := S1024x1024) ![0, 0] S1024x1024.size inb_S1024x1024_S1024x1024_0_0).toLoadRect (harg12.unread x10) = x10 :=
    (View.readAt_full ..).trans (harg12.read_unread x10)
  have c0 : View.readAt (Elt F) arg5.view (Rect.unit (s := S4x1024) ![0, 0] S1x1024.size inb_S4x1024_S1x1024_0_0).toLoadRect (harg5.unread x3) = cwRow x3 0 :=
    (congrArg (fun z => View.ld z _) (harg5.read_unread x3)).trans (ld_cwRow x3 0 _ rfl _)
  have c1 : View.readAt (Elt F) arg5.view (Rect.unit (s := S4x1024) ![1, 0] S1x1024.size inb_S4x1024_S1x1024_1_0).toLoadRect (harg5.unread x3) = cwRow x3 1 :=
    (congrArg (fun z => View.ld z _) (harg5.read_unread x3)).trans (ld_cwRow x3 1 _ rfl _)
  have c2 : View.readAt (Elt F) arg5.view (Rect.unit (s := S4x1024) ![2, 0] S1x1024.size inb_S4x1024_S1x1024_2_0).toLoadRect (harg5.unread x3) = cwRow x3 2 :=
    (congrArg (fun z => View.ld z _) (harg5.read_unread x3)).trans (ld_cwRow x3 2 _ rfl _)
  have c3 : View.readAt (Elt F) arg5.view (Rect.unit (s := S4x1024) ![3, 0] S1x1024.size inb_S4x1024_S1x1024_3_0).toLoadRect (harg5.unread x3) = cwRow x3 3 :=
    (congrArg (fun z => View.ld z _) (harg5.read_unread x3)).trans (ld_cwRow x3 3 _ rfl _)
  have w7_0 : View.readAt (Elt F) arg7.view (Rect.unit (s := S4x256x256) ![0, 0, 0] S1x256x256.size inb_S4x256x256_S1x256x256_0_0_0).toLoadRect (harg7.unread x5) = wHead x5 0 :=
    (congrArg (fun z => View.ld z _) (harg7.read_unread x5)).trans (ld_wHead x5 0 _ rfl _)
  have w7_1 : View.readAt (Elt F) arg7.view (Rect.unit (s := S4x256x256) ![1, 0, 0] S1x256x256.size inb_S4x256x256_S1x256x256_1_0_0).toLoadRect (harg7.unread x5) = wHead x5 1 :=
    (congrArg (fun z => View.ld z _) (harg7.read_unread x5)).trans (ld_wHead x5 1 _ rfl _)
  have w7_2 : View.readAt (Elt F) arg7.view (Rect.unit (s := S4x256x256) ![2, 0, 0] S1x256x256.size inb_S4x256x256_S1x256x256_2_0_0).toLoadRect (harg7.unread x5) = wHead x5 2 :=
    (congrArg (fun z => View.ld z _) (harg7.read_unread x5)).trans (ld_wHead x5 2 _ rfl _)
  have w7_3 : View.readAt (Elt F) arg7.view (Rect.unit (s := S4x256x256) ![3, 0, 0] S1x256x256.size inb_S4x256x256_S1x256x256_3_0_0).toLoadRect (harg7.unread x5) = wHead x5 3 :=
    (congrArg (fun z => View.ld z _) (harg7.read_unread x5)).trans (ld_wHead x5 3 _ rfl _)
  have w9_0 : View.readAt (Elt F) arg9.view (Rect.unit (s := S4x256x256) ![0, 0, 0] S1x256x256.size inb_S4x256x256_S1x256x256_0_0_0).toLoadRect (harg9.unread x7) = wHead x7 0 :=
    (congrArg (fun z => View.ld z _) (harg9.read_unread x7)).trans (ld_wHead x7 0 _ rfl _)
  have w9_1 : View.readAt (Elt F) arg9.view (Rect.unit (s := S4x256x256) ![1, 0, 0] S1x256x256.size inb_S4x256x256_S1x256x256_1_0_0).toLoadRect (harg9.unread x7) = wHead x7 1 :=
    (congrArg (fun z => View.ld z _) (harg9.read_unread x7)).trans (ld_wHead x7 1 _ rfl _)
  have w9_2 : View.readAt (Elt F) arg9.view (Rect.unit (s := S4x256x256) ![2, 0, 0] S1x256x256.size inb_S4x256x256_S1x256x256_2_0_0).toLoadRect (harg9.unread x7) = wHead x7 2 :=
    (congrArg (fun z => View.ld z _) (harg9.read_unread x7)).trans (ld_wHead x7 2 _ rfl _)
  have w9_3 : View.readAt (Elt F) arg9.view (Rect.unit (s := S4x256x256) ![3, 0, 0] S1x256x256.size inb_S4x256x256_S1x256x256_3_0_0).toLoadRect (harg9.unread x7) = wHead x7 3 :=
    (congrArg (fun z => View.ld z _) (harg9.read_unread x7)).trans (ld_wHead x7 3 _ rfl _)
  have hp : ∀ j : S8x1024.Idx, k0_pay8 (View.readAt (Elt F) arg14.view (Rect.unit (s := S264x1024) ![256, 0] S8x1024.size inb_S264x1024_S8x1024_256_0).toLoadRect (harg14.unread xs0)) j = xs0 (ix2 ⟨256 + (j 0).val, by have : (j 0).val < 8 := (j 0).isLt; omega⟩ (j 1)) := fun j =>
    (congrArg (fun z => k0_pay8 (View.ld z (Rect.unit (s := S264x1024) ![256, 0] S8x1024.size inb_S264x1024_S8x1024_256_0)) j) (harg14.read_unread xs0)).trans (keep_rows xs0 j)
  have hi : View.readAt (Elt F) arg15.view (Rect.unit (s := S8x1024) ![0, 0] S1x1024.size inb_S8x1024_S1x1024_0_0).toLoadRect (harg15.unread xs1) = hInit xs1 :=
    (congrArg (fun z => View.ld z _) (harg15.read_unread xs1)).trans (ld_hInit xs1)
  have hE := fun f => read_ext arg14.view f xs0 (k0_pay9 x0 x1 x2) (k0_pay8 (View.readAt (Elt F) arg14.view (Rect.unit (s := S264x1024) ![256, 0] S8x1024.size inb_S264x1024_S8x1024_256_0).toLoadRect (harg14.unread xs0))) [] hp
  have t0 := readCov_tap arg14.view xs0 (k0_pay9 x0 x1 x2) _ [] hp 0 ![5, 0] rfl inb_S264x1024_S256x1024_5_0
  have t1 := readCov_tap arg14.view xs0 (k0_pay9 x0 x1 x2) _ [] hp 1 ![6, 0] rfl inb_S264x1024_S256x1024_6_0
  have t2 := readCov_tap arg14.view xs0 (k0_pay9 x0 x1 x2) _ [] hp 2 ![7, 0] rfl inb_S264x1024_S256x1024_7_0
  have t3 := readCov_tap arg14.view xs0 (k0_pay9 x0 x1 x2) _ [] hp 3 ![8, 0] rfl inb_S264x1024_S256x1024_8_0
  sl_exec (disch := first | sl_exact hc0)
  sl_step
  iapply Hk
  isplitl [H0]
  · iexists _; isplitr; swap; · iexact H0
    ipureintro; exact harg2.read_unread x0
  isplitl [H1]
  · iexists _; isplitr; swap; · iexact H1
    ipureintro; exact harg3.read_unread x1
  isplitl [H2]
  · iexists _; isplitr; swap; · iexact H2
    ipureintro; exact harg4.read_unread x2
  isplitl [H3]
  · iexists _; isplitr; swap; · iexact H3
    ipureintro; exact harg5.read_unread x3
  isplitl [H4]
  · iexists _; isplitr; swap; · iexact H4
    ipureintro; exact harg6.read_unread x4
  isplitl [H5]
  · iexists _; isplitr; swap; · iexact H5
    ipureintro; exact harg7.read_unread x5
  isplitl [H6]
  · iexists _; isplitr; swap; · iexact H6
    ipureintro; exact harg8.read_unread x6
  isplitl [H7]
  · iexists _; isplitr; swap; · iexact H7
    ipureintro; exact harg9.read_unread x7
  isplitl [H8]
  · iexists _; isplitr; swap; · iexact H8
    ipureintro; exact harg10.read_unread x8
  isplitl [H9]
  · iexists _; isplitr; swap; · iexact H9
    ipureintro; exact harg11.read_unread x9
  isplitl [H10]
  · iexists _; isplitr; swap; · iexact H10
    ipureintro; exact harg12.read_unread x10
  isplitl [H11]
  · iexists _; isplitr; swap; · iexact H11
    ipureintro
    refine (View.read_writes_full ..).trans ?_
    refine congr (congr (congr (congrArg k0_pay2 ?_) ?_) ?_) rfl
    · sl_unfold_words
      rfl
    · sl_unfold_words
      rfl
    · refine loop_states (hn := trips_eq) (hA := ?_) (hB := ?_) (hI := ?_) ..
      · sl_unfold_words
        refine (View.read_writes_full ..).trans ?_

        rfl
      · sl_unfold_words
        refine (View.read_writes_full ..).trans ?_

        rfl
      · sl_unfold_words
        rfl
  isplitl [HS0]
  · iexists _; isplitr; swap; · iexact HS0
    ipureintro
    sl_unfold_words
    exact read_ext arg14.view _ xs0 _ _ _ hp
  isplitl [HS1]
  · iexists _; isplitr; swap; · iexact HS1
    ipureintro
    refine (read_hNext arg15.view _ xs1 _ [] (harg15.read_unread xs1)).trans ?_
    refine congrArg (hNext _) ?_
    unfold k0_pay1
    refine (shapeCast_self _ _).trans ?_
    refine loop_last (hn := trips_eq) (hA := ?_) (hB := ?_) (hI := ?_) ..
    · sl_unfold_words
      refine (View.read_writes_full ..).trans ?_

      rfl
    · sl_unfold_words
      refine (View.read_writes_full ..).trans ?_

      rfl
    · sl_unfold_words
      rfl
  isplitl [HS2]
  · iexists _, _; isplitr; swap; · iexact HS2
    ipureintro; rfl
  isplitl [HS3]
  · iexists _, _; isplitr; swap; · iexact HS3
    ipureintro; rfl
  iexists _, _; isplitr; swap; · iexact HS4
  ipureintro; rfl

end Cert.KernelIdeal.Body

end
-- ==== Proof.RunA.lean ====
module

public import proofs.«01_k».proof.Proof.RunB

@[expose] public section

set_option maxRecDepth 16384

noncomputable section

namespace Cert.KernelIdeal.Body

open Cert.KernelIdeal Cert.KernelIdeal.Gen Cert.KernelIdeal.Cell
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A grid point whose second coordinate is one: it does not reset. -/
def plain : grid0.Coords := fun a => ⟨a.val, by revert a; decide⟩

theorem plain_not : ¬cond0_0 plain := by decide

/-- At a point that resets, the body is: fill the two carried buffers, then run the body of a point that does not reset. -/
theorem body_reset (i : grid0.Coords) (arg2 : Memref sig .tc .vmem S1x256x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S4x1024 .f32) (harg5 : arg5.IsWhole) (arg6 : Memref sig .tc .vmem S1x1024 .f32) (harg6 : arg6.IsWhole) (arg7 : Memref sig .tc .vmem S4x256x256 .bf16) (harg7 : arg7.IsWhole) (arg8 : Memref sig .tc .vmem S1x1024 .f32) (harg8 : arg8.IsWhole) (arg9 : Memref sig .tc .vmem S4x256x256 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1x256x1024 .f32) (harg13 : arg13.IsWhole) (arg14 : Memref sig .tc .vmem S264x1024 .f32) (harg14 : arg14.IsWhole) (arg15 : Memref sig .tc .vmem S8x1024 .f32) (harg15 : arg15.IsWhole) (arg16 : Memref sig .tc .vmem S256x1024 .f32) (harg16 : arg16.IsWhole) (arg17 : Memref sig .tc .vmem S256x1024 .f32) (harg17 : arg17.IsWhole) (arg18 : Memref sig .tc .vmem S256x1024 .f32) (harg18 : arg18.IsWhole) (hc0 : cond0_0 i) :
    (cc0_rglru_mixer (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) =
      (Prog.op (.load arg14 (Rect.unit (s := S264x1024) ![0, 0] S264x1024.size inb_S264x1024_S264x1024_0_0).toLoadRect (View.loadsAt_vmem h_S264x1024)) fun _ =>
        Prog.op (.store arg14 (Rect.unit (s := S264x1024) ![0, 0] S264x1024.size inb_S264x1024_S264x1024_0_0) (k0_pay3 (F := F)) Finset.univ (View.stores_vmem_bits_univ h_S264x1024 rfl) (.inl rfl)) fun _ =>
        Prog.op (.load arg15 (Rect.unit (s := S8x1024) ![0, 0] S8x1024.size inb_S8x1024_S8x1024_0_0).toLoadRect (View.loadsAt_vmem h_S8x1024)) fun _ =>
        Prog.op (.store arg15 (Rect.unit (s := S8x1024) ![0, 0] S8x1024.size inb_S8x1024_S8x1024_0_0) (k0_pay4 (F := F)) Finset.univ (View.stores_vmem_bits_univ h_S8x1024 rfl) (.inl rfl)) fun _ =>
        cc0_rglru_mixer (F := F) plain arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) := by
  have hp := plain_not
  simp only [cc0_rglru_mixer_eq_skeleton]; unfold cc0_rglru_mixer_skel
  simp only [k0_part1_eq_skeleton]
  unfold k0_part1_skel
  simp only [dif_pos hc0, dif_neg hp]
  rfl

/-- The body at a point that resets the carried buffers: what it leaves in its output block and in the two carried buffers. -/
theorem run_A (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S4x1024 .f32) (harg5 : arg5.IsWhole) (arg6 : Memref sig .tc .vmem S1x1024 .f32) (harg6 : arg6.IsWhole) (arg7 : Memref sig .tc .vmem S4x256x256 .bf16) (harg7 : arg7.IsWhole) (arg8 : Memref sig .tc .vmem S1x1024 .f32) (harg8 : arg8.IsWhole) (arg9 : Memref sig .tc .vmem S4x256x256 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1x256x1024 .f32) (harg13 : arg13.IsWhole) (arg14 : Memref sig .tc .vmem S264x1024 .f32) (harg14 : arg14.IsWhole) (arg15 : Memref sig .tc .vmem S8x1024 .f32) (harg15 : arg15.IsWhole) (arg16 : Memref sig .tc .vmem S256x1024 .f32) (harg16 : arg16.IsWhole) (arg17 : Memref sig .tc .vmem S256x1024 .f32) (harg17 : arg17.IsWhole) (arg18 : Memref sig .tc .vmem S256x1024 .f32) (harg18 : arg18.IsWhole) (hc0 : cond0_0 i)
    (x0 : Vec F S1x256x1024 .f32) (x1 : Vec F S1x1024 .f32) (x2 : Vec F S1024x2048 .bf16) (x3 : Vec F S4x1024 .f32) (x4 : Vec F S1x1024 .f32) (x5 : Vec F S4x256x256 .bf16) (x6 : Vec F S1x1024 .f32) (x7 : Vec F S4x256x256 .bf16) (x8 : Vec F S1x1024 .f32) (x9 : Vec F S1x1024 .f32) (x10 : Vec F S1024x1024 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10
          ∗ owns (c : Thread nD τ) arg13 fullShare (outOf x0 x1 x2 (hsAll (aOf x3 x4 (extNext (k0_pay3 (F := F)) (k0_pay9 x0 x1 x2)) x5 x6 x9) (bOf x3 x4 (extNext (k0_pay3 (F := F)) (k0_pay9 x0 x1 x2)) x5 x6 x7 x8 x9) (hInit (k0_pay4 (F := F)))) x10)
          ∗ owns (c : Thread nD τ) arg14 fullShare (extNext (k0_pay3 (F := F)) (k0_pay9 x0 x1 x2))
          ∗ owns (c : Thread nD τ) arg15 fullShare (hNext (k0_pay4 (F := F)) (hseq (aOf x3 x4 (extNext (k0_pay3 (F := F)) (k0_pay9 x0 x1 x2)) x5 x6 x9) (bOf x3 x4 (extNext (k0_pay3 (F := F)) (k0_pay9 x0 x1 x2)) x5 x6 x7 x8 x9) (hInit (k0_pay4 (F := F))) 256))
          ∗ (∃ d, owns (c : Thread nD τ) arg16 fullShare d) ∗ (∃ d, owns (c : Thread nD τ) arg17 fullShare d) ∗ (∃ d, owns (c : Thread nD τ) arg18 fullShare d)) -∗ K ⟨⟩))
      ⊢ wp frame (wpE (defs₀ (F := F)) Variants.none c none) E (cc0_rglru_mixer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  rw [body_reset i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0]
  iintro ⟨H0, H1, H2, H3, H4, H5, H6, H7, H8, H9, H10, H11, ⟨%ds0, HS0⟩, ⟨%ds1, HS1⟩, HS2, HS3, HS4, Hk⟩
  unfold owns
  icases HS0 with ⟨%fs0, -, HS0⟩
  icases HS1 with ⟨%fs1, -, HS1⟩
  sl_step
  sl_step
  sl_step
  sl_step
  have hB := run_B (F := F) c plain arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 plain_not x0 x1 x2 x3 x4 x5 x6 x7 x8 x9 x10 k0_pay3 k0_pay4 E K
  unfold owns at hB
  iapply hB
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [HS0]
  · iexists _; isplitr; swap; · iexact HS0
    ipureintro; exact View.read_writes_full arg14.view fs0 inb_S264x1024_S264x1024_0_0 k0_pay3 []
  isplitl [HS1]
  · iexists _; isplitr; swap; · iexact HS1
    ipureintro; exact View.read_writes_full arg15.view fs1 inb_S8x1024_S8x1024_0_0 k0_pay4 []
  isplitl [HS2]
  · iexact HS2
  isplitl [HS3]
  · iexact HS3
  isplitl [HS4]
  · iexact HS4
  iexact Hk

end Cert.KernelIdeal.Body

end
-- ==== Proof.Body.lean ====
module

public import proofs.«01_k».proof.Proof.RunA
public import proofs.«01_k».proof.Proof.Gen.KernelIdeal.Frame
public import Idealize.ShloMosaic.Lib.Claim

/-! The pipeline of the mixer's kernel: what the two carried buffers hold before each of the 128 grid points, the proof data
of the pipeline over it, the body's obligation at every point, and the run of @main. Everything is stated over any
interpretation of the floats. -/

@[expose] public section

set_option maxRecDepth 16384

noncomputable section

namespace Cert.KernelIdeal.Body

open Cert.KernelIdeal Cert.KernelIdeal.Gen Cert.KernelIdeal.Cell
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The points that reset the carried buffers are those that begin a sequence. -/
theorem hcond0_0 : ∀ t : Fin grid0.N, cond0_0 (grid0.coords t) ↔ t.val % 16 = 0 := by
  intro t
  have ht : t.val < 128 := Nat.lt_of_lt_of_eq t.isLt N_0
  have e1 : (grid0.coords t 1).val = t.val / 1 % 16 := Pipeline.Grid.coords_val t 1 (by decide) rfl
  simp only [cond0_0, e1]
  word_cmp

abbrev ms0_0 (t : Fin cfg0.N) : Memref sig .tc .vmem S1x256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x256x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4x256x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x1024 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x256x1024 .f32 := win0_11.stage (cfg0.slots t 11)
abbrev hs0_11 (t : Fin cfg0.N) : (ms0_11 t).IsWhole := hstage0_11 ((cfg0.slots t 11).cast nbuf0_11)
abbrev scM0_0 : Memref sig .tc .vmem S264x1024 .f32 := Memref.whole cc0_scratch0
abbrev scM0_1 : Memref sig .tc .vmem S8x1024 .f32 := Memref.whole cc0_scratch1
abbrev scM0_2 : Memref sig .tc .vmem S256x1024 .f32 := Memref.whole cc0_scratch2
abbrev scM0_3 : Memref sig .tc .vmem S256x1024 .f32 := Memref.whole cc0_scratch3
abbrev scM0_4 : Memref sig .tc .vmem S256x1024 .f32 := Memref.whole cc0_scratch4

/-- What the launch hands the region: every scratch buffer at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-! ## The carried buffers -/

/-- What the two carried buffers hold: the convolution's input with eight rows of the block before, and the scan's state. -/
abbrev Carry (F : FTy → Type) [FloatOps F] := Vec F S264x1024 .f32 × Vec F S8x1024 .f32

/-- Before the first block of a sequence both are zero. -/
def carry0 : Carry F := (k0_pay3, k0_pay4)

/-- The convolution's input at point `t`, entered with `e`. -/
def extAt (c : Dev nD) (t : Fin cfg0.N) (e : Carry F) : Vec F S264x1024 .f32 :=
  extNext e.1 (k0_pay9 (iblk m c 0 t) (iblk m c 1 t) (iblk m c 2 t))

/-- The scan's factors at point `t`. -/
def aAt (c : Dev nD) (t : Fin cfg0.N) (e : Carry F) : Vec F S256x1024 .f32 :=
  aOf (iblk m c 3 t) (iblk m c 4 t) (extAt m c t e) (iblk m c 5 t) (iblk m c 6 t) (iblk m c 9 t)

/-- The scan's summands at point `t`. -/
def bAt (c : Dev nD) (t : Fin cfg0.N) (e : Carry F) : Vec F S256x1024 .f32 :=
  bOf (iblk m c 3 t) (iblk m c 4 t) (extAt m c t e) (iblk m c 5 t) (iblk m c 6 t) (iblk m c 7 t) (iblk m c 8 t) (iblk m c 9 t)

/-- The carried buffers after point `t`. -/
def leave (c : Dev nD) (t : Fin cfg0.N) (e : Carry F) : Carry F :=
  (extAt m c t e, hNext e.2 (hseq (aAt m c t e) (bAt m c t e) (hInit e.2) 256))

/-- The output block of point `t`. -/
def outAt (c : Dev nD) (t : Fin cfg0.N) (e : Carry F) : Vec F S1x256x1024 .f32 :=
  outOf (iblk m c 0 t) (iblk m c 1 t) (iblk m c 2 t) (hsAll (aAt m c t e) (bAt m c t e) (hInit e.2)) (iblk m c 10 t)

/-- The carried buffers the body at position `n` works from: zero at the first block of a sequence, else what the point
    before left. -/
def entry (c : Dev nD) : (n : ℕ) → n < cfg0.N → Carry F
  | 0, _ => carry0
  | n + 1, hn => if (n + 1) % 16 = 0 then carry0 else leave m c ⟨n, Nat.lt_of_succ_lt hn⟩ (entry c n (Nat.lt_of_succ_lt hn))

theorem entry_reset (c : Dev nD) (t : Fin cfg0.N) (h0 : t.val % 16 = 0) : entry m c t.val t.isLt = carry0 := by
  obtain ⟨n, hn⟩ := t
  cases n with
  | zero => rfl
  | succ n => exact if_pos h0

theorem entry_next (c : Dev nD) (n : ℕ) (hn : n + 1 < cfg0.N) (h0 : ¬(n + 1) % 16 = 0) :
    entry m c (n + 1) hn = leave m c ⟨n, Nat.lt_of_succ_lt hn⟩ (entry m c n (Nat.lt_of_succ_lt hn)) := if_neg h0

/-- The carried buffers after the point at position `n`. -/
def left (c : Dev nD) (n : ℕ) (hn : n < cfg0.N) : Carry F := leave m c ⟨n, hn⟩ (entry m c n hn)

theorem entry_prev (c : Dev nD) (t : Fin cfg0.N) (h0 : ¬t.val % 16 = 0) :
    entry m c t.val t.isLt = left m c (t.val - 1) (Nat.lt_of_le_of_lt (Nat.sub_le _ _) t.isLt) := by
  obtain ⟨n, hn⟩ := t
  cases n with
  | zero => exact absurd (Nat.zero_mod _) h0
  | succ n => exact entry_next m c n hn h0

/-- The region's invariant before position `n`: the carried buffers at what the point before left, the other scratch buffers
    at anything. -/
def PhiS (c : Dev nD) : (n : ℕ) → n ≤ cfg0.N → sProp 𝕄
  | 0, _ => Pipeline.ΦA spec0 c
  | n + 1, hn => iprop(iprop(owns (c : Thread nD τ) scM0_0 fullShare (left m c n hn).1 ∗ owns (c : Thread nD τ) scM0_1 fullShare (left m c n hn).2 ∗ (∃ d, owns (c : Thread nD τ) scM0_2 fullShare d) ∗ (∃ d, owns (c : Thread nD τ) scM0_3 fullShare d) ∗ (∃ d, owns (c : Thread nD τ) scM0_4 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (left m c n hn).1 ∗ owns (c : Thread nD τ) scM0_1 fullShare (left m c n hn).2 ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare (left m c (n - 1) (by omega)).1 ∗ owns (c : Thread nD τ) scM0_1 fullShare (left m c (n - 1) (by omega)).2 ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  cases n with
  | zero => exact absurd rfl hz
  | succ n => rfl

/-- The proof data of the pipeline: each input's block in its buffer, the output's block at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outAt m c t (entry m c t.val t.isLt)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = outAt m c t (entry m c t.val t.isLt) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.succ = PhiS m c (t.val + 1) t.isLt from rfl, PhiS_succ]
  by_cases h0 : t.val % 16 = 0
  · have he := entry_reset m c t h0
    unfold left; rw [he]
    by_cases hz : t.val = 0
    · rw [PhiS_castSucc m c t, PhiS_zero m c _ _ hz, PhiA0_eq]
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (run_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, H9, H10, H11, HS0, HS1, HS2, HS3, HS4⟩
      isplitl [HS0 HS1 HS2 HS3 HS4 Hg]
      · isplitl [HS0 HS1 HS2 HS3 HS4]
        · isplitl [HS0]; · iexact HS0
          isplitl [HS1]; · iexact HS1
          isplitl [HS2]; · iexact HS2
          isplitl [HS3]; · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · rw [PhiS_castSucc m c t, PhiS_pos m c _ _ hz]
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (run_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [HS0]; · iexists _; iexact HS0
      isplitl [HS1]; · iexists _; iexact HS1
      isplitl [HS2]; · iexact HS2
      isplitl [HS3]; · iexact HS3
      isplitl [HS4]; · iexact HS4
      iintro ⟨H0, H1, H2, H3, H4, H5, H6, H7, H8, H9, H10, H11, HS0, HS1, HS2, HS3, HS4⟩
      isplitl [HS0 HS1 HS2 HS3 HS4 Hg]
      · isplitl [HS0 HS1 HS2 HS3 HS4]
        · isplitl [HS0]; · iexact HS0
          isplitl [HS1]; · iexact HS1
          isplitl [HS2]; · iexact HS2
          isplitl [HS3]; · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
  · have hz : t.val ≠ 0 := fun hz => h0 (by rw [hz])
    have he := entry_prev m c t h0
    rw [PhiS_castSucc m c t, PhiS_pos m c _ _ hz, ← he]
    unfold left
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (run_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, H9, H10, H11, HS0, HS1, HS2, HS3, HS4⟩
    isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]
    · iexists _; iexact HS0
    isplitl [HS1]
    · iexists _; iexact HS1
    isplitl [HS2]
    · iexact HS2
    isplitl [HS3]
    · iexact HS3
    iexact HS4
  iexact Hg

/-- The same after the last point. -/
theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- The frame with the counters: the argument arrays end unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.KernelIdeal.Body

end
-- ==== Proof.Scalar.lean ====
module

public import Idealize.ShloMosaic.Lib.Pointwise
public import Idealize.ShloMosaic.Lib.IdealHost
public import Mathlib.Analysis.SpecialFunctions.Trigonometric.DerivHyp

/-! Facts about single extended reals: the values of two constants, the sign of the softplus and of the logistic, and the
identity that lets the kernel take `√(1 − e^{2ℓ})` through a hyperbolic tangent. -/

@[expose] public section

noncomputable section

namespace Cert.Mixer

open Idealize.ShloMosaic

/-- The pattern of `2.0`. -/
theorem ofBits_two : Ideal.ofBits .f32 0x40000000#32 = ((2 : ℝ) : EReal) := by
  simp [Ideal.ofBits, Ideal.ieee, -EReal.coe_mul, -EReal.coe_neg]; norm_num

/-- The pattern of `-8.0`. -/
theorem ofBits_neg_eight : Ideal.ofBits .f32 0xC1000000#32 = ((-8 : ℝ) : EReal) := by
  simp [Ideal.ofBits, Ideal.ieee, -EReal.coe_mul, -EReal.coe_neg]; norm_num

/-- The exponential is never negative. -/
theorem exp_nonneg (x : EReal) : 0 ≤ Ideal.exp x := by
  induction x with
  | bot => exact le_rfl
  | top => exact le_top
  | coe r => exact EReal.coe_nonneg.2 (Real.exp_pos r).le

/-- The logarithm of one plus something nonnegative is nonnegative. -/
theorem log1p_nonneg (x : EReal) (hx : 0 ≤ x) : 0 ≤ Ideal.log1p x := by
  unfold Ideal.log1p
  induction x with
  | bot => exact absurd hx (by simp)
  | top => rw [EReal.add_top_of_ne_bot (by rw [← EReal.coe_one]; exact EReal.coe_ne_bot 1)]; exact le_top
  | coe r =>
    have hr : (0 : ℝ) ≤ r := EReal.coe_nonneg.1 hx
    have e : (1 : EReal) + (r : EReal) = ((1 + r : ℝ) : EReal) := by push_cast; rfl
    rw [e]
    show 0 ≤ (if 1 + r ≤ 0 then ⊥ else (Real.log (1 + r) : EReal))
    rw [if_neg (by linarith)]
    exact EReal.coe_nonneg.2 (Real.log_nonneg (by linarith))

/-- The logistic function is never negative. -/
theorem logistic_nonneg (x : EReal) : 0 ≤ Ideal.logistic x := by
  unfold Ideal.logistic
  have h : 0 ≤ 1 + Ideal.exp (-x) := add_nonneg zero_le_one (exp_nonneg _)
  unfold Ideal.div
  split
  · rw [if_pos zero_lt_one]; exact le_top
  · rw [one_mul]; exact EReal.inv_nonneg_of_nonneg h

/-- The softplus of a value, as both programs spell it. -/
def softplus (x : EReal) : EReal := max x 0 + Ideal.log1p (Ideal.exp (-(max x (-x))))

theorem softplus_nonneg (x : EReal) : 0 ≤ softplus x :=
  add_nonneg (le_max_right _ _) (log1p_nonneg _ (exp_nonneg _))

/-- The logarithm of a scan factor: `-8 · r · softplus z`. -/
def logA (r z : EReal) : EReal := Ideal.ofBits .f32 0xC1000000#32 * r * softplus z

/-- It is at most zero for a nonnegative gate. -/
theorem logA_nonpos (r z : EReal) (hr : 0 ≤ r) : logA r z ≤ 0 := by
  unfold logA
  rw [ofBits_neg_eight]
  have h1 : ((-8 : ℝ) : EReal) * r ≤ 0 :=
    EReal.mul_nonpos_iff.2 (Or.inr ⟨by exact_mod_cast (by norm_num : (-8 : ℝ) ≤ 0), hr⟩)
  exact EReal.mul_nonpos_iff.2 (Or.inr ⟨h1, softplus_nonneg z⟩)

/-- The kernel's `√(2 tanh ℓ / (tanh ℓ − 1))` is the reference's `√(−(e^{2ℓ} − 1))` wherever `ℓ` is not `+∞`. -/
theorem mult_eq (l : EReal) (h : l ≤ 0) :
    Ideal.sqrt (Ideal.div (Ideal.ofBits .f32 0x40000000#32 * Ideal.tanh l) (Ideal.tanh l - 1))
      = Ideal.sqrt (-(Ideal.exp (Ideal.ofBits .f32 0x40000000#32 * l) - 1)) := by
  rw [ofBits_two]
  congr 1
  induction l with
  | top => exact absurd h (by simp)
  | bot =>
    have e1 : ((2 : ℝ) : EReal) * ⊥ = ⊥ := EReal.coe_mul_bot_of_pos (by norm_num)
    rw [e1]
    show Ideal.div (((2 : ℝ) : EReal) * (-1)) (-1 - 1) = -(0 - 1)
    have e2 : ((2 : ℝ) : EReal) * (-1) = ((-2 : ℝ) : EReal) := by
      rw [show (-1 : EReal) = ((-1 : ℝ) : EReal) by rw [EReal.coe_neg, EReal.coe_one], ← EReal.coe_mul]; norm_num
    have e3 : (-1 - 1 : EReal) = ((-2 : ℝ) : EReal) := by
      rw [show (-1 : EReal) = ((-1 : ℝ) : EReal) by rw [EReal.coe_neg, EReal.coe_one], ← EReal.coe_one, ← EReal.coe_sub]; norm_num
    rw [e2, e3, Ideal.div_coe (by norm_num), ← EReal.coe_mul, zero_sub, neg_neg]
    norm_num
  | coe r =>
    show Ideal.div (((2 : ℝ) : EReal) * (Real.tanh r : EReal)) ((Real.tanh r : EReal) - 1)
      = -(Ideal.exp (((2 : ℝ) : EReal) * (r : EReal)) - 1)
    rw [← EReal.coe_mul, ← EReal.coe_mul, ← EReal.coe_one, ← EReal.coe_sub]
    show Ideal.div _ _ = -((Real.exp (2 * r) : EReal) - ((1 : ℝ) : EReal))
    have hc : 0 < Real.cosh r := Real.cosh_pos r
    have hs : Real.sinh r - Real.cosh r = - Real.exp (-r) := by rw [Real.sinh_eq, Real.cosh_eq]; ring
    have hd : Real.tanh r - 1 = - Real.exp (-r) / Real.cosh r := by
      rw [Real.tanh_eq_sinh_div_cosh, ← hs]; field_simp
    have hn : Real.tanh r - 1 ≠ 0 := by
      rw [hd]; exact div_ne_zero (neg_ne_zero.2 (Real.exp_pos _).ne') hc.ne'
    rw [Ideal.div_coe hn, ← EReal.coe_mul, ← EReal.coe_sub, ← EReal.coe_neg]
    congr 1
    rw [hd, Real.tanh_eq_sinh_div_cosh]
    have he : Real.exp (-r) ≠ 0 := (Real.exp_pos _).ne'
    have h2 : Real.exp (2 * r) * Real.exp (-r) = Real.exp r := by rw [← Real.exp_add]; congr 1; ring
    field_simp
    have h3 : 2 * Real.sinh r = Real.exp r - Real.exp (-r) := by rw [Real.sinh_eq]; ring
    nlinarith [h2, h3]

end Cert.Mixer

end
-- ==== Proof.Spec.lean ====
module

public import proofs.«01_k».proof.Proof.Scalar

/-! The mixer of one sequence in scalars: what both programs compute at an index, as functions of the arguments' entries. -/

@[expose] public section

noncomputable section

namespace Cert.Mixer

open Idealize.ShloMosaic

/-- The arguments, entry by entry; a row of `x` past the end of its sequence is zero. -/
structure Par where
  x : Fin 8 → ℕ → Fin 1024 → EReal
  g : Fin 1024 → EReal
  win : Fin 1024 → Fin 2048 → EReal
  cw : Fin 4 → Fin 1024 → EReal
  cb : Fin 1024 → EReal
  wa : Fin 4 → Fin 256 → Fin 256 → EReal
  ba : Fin 1024 → EReal
  wx : Fin 4 → Fin 256 → Fin 256 → EReal
  bx : Fin 1024 → EReal
  lam : Fin 1024 → EReal
  wo : Fin 1024 → Fin 1024 → EReal

/-- A row scaled to unit mean square, then by the norm's gain. -/
def normRow (x g : Fin 1024 → EReal) (k : Fin 1024) : EReal :=
  x k * Ideal.rsqrt (Ideal.div (∑ l, x l * x l) (Ideal.ofBits .f32 0x44800000#32) + Ideal.ofBits .f32 0x358637BD#32) * g k

/-- A normalised row times column `c` of the input projection. -/
def proj (x g : Fin 1024 → EReal) (w : Fin 1024 → Fin 2048 → EReal) (c : Fin 2048) : EReal :=
  ∑ k, normRow x g k * w k c

/-- The tanh form of the GELU. -/
def gelu (v : EReal) : EReal :=
  v * (Ideal.ofBits .f32 0x3F000000#32 * (1 + Ideal.tanh (Ideal.ofBits .f32 0x3F4C422A#32
    * (v + Ideal.ofBits .f32 0x3D372713#32 * (v * v * v)))))

/-- Column `c` of the gate half of the projection. -/
def gcol (c : Fin 1024) : Fin 2048 := ⟨c.val, by omega⟩

/-- Column `c` of the recurrent half of the projection. -/
def ucol (c : Fin 1024) : Fin 2048 := ⟨1024 + c.val, by omega⟩

/-- The head a column belongs to. -/
def hd (c : Fin 1024) : Fin 4 := ⟨c.val / 256, by omega⟩

/-- A column's place in its head. -/
def pl (c : Fin 1024) : Fin 256 := ⟨c.val % 256, by omega⟩

/-- The column at place `i` of head `q`. -/
def col (q : Fin 4) (i : Fin 256) : Fin 1024 := ⟨q.val * 256 + i.val, by omega⟩

variable (P : Par) (b : Fin 8)

/-- The recurrent branch before the convolution. -/
def uAt (n : ℕ) (c : Fin 1024) : EReal := proj (P.x b n) P.g P.win (ucol c)

/-- The branch `3 - k` rows earlier, zero before the sequence. -/
def tapAt (n k : ℕ) (c : Fin 1024) : EReal := if 3 ≤ n + k then uAt P b (n + k - 3) c else 0

/-- The causal convolution. -/
def convAt (n : ℕ) (c : Fin 1024) : EReal :=
  tapAt P b n 0 c * P.cw 0 c + tapAt P b n 1 c * P.cw 1 c + tapAt P b n 2 c * P.cw 2 c + tapAt P b n 3 c * P.cw 3 c + P.cb c

/-- A gate before its logistic: the block-diagonal product and the bias. -/
def preGate (w : Fin 4 → Fin 256 → Fin 256 → EReal) (bias : Fin 1024 → EReal) (n : ℕ) (c : Fin 1024) : EReal :=
  (∑ i, convAt P b n (col (hd c) i) * w (hd c) i (pl c)) + bias c

/-- The logarithm of the scan's factor. -/
def lAt (n : ℕ) (c : Fin 1024) : EReal := logA (Ideal.logistic (preGate P b P.wa P.ba n c)) (-P.lam c)

/-- The scan's factor. -/
def aAt (n : ℕ) (c : Fin 1024) : EReal := Ideal.exp (lAt P b n c)

/-- The scan's summand. -/
def bAt (n : ℕ) (c : Fin 1024) : EReal :=
  Ideal.sqrt (-(Ideal.exp (Ideal.ofBits .f32 0x40000000#32 * lAt P b n c) - 1))
    * (Ideal.logistic (preGate P b P.wx P.bx n c) * convAt P b n c)

/-- The scan's state before row `n`. -/
def hAt : ℕ → Fin 1024 → EReal
  | 0, _ => 0
  | n + 1, c => aAt P b n c * hAt n c + bAt P b n c

/-- An entry of the mixer's result. -/
def outAt (n : ℕ) (c : Fin 1024) : EReal :=
  P.x b n c + ∑ k, gelu (proj (P.x b n) P.g P.win (gcol k)) * hAt P b (n + 1) k * P.wo k c

theorem lAt_nonpos (n : ℕ) (c : Fin 1024) : lAt P b n c ≤ 0 := logA_nonpos _ _ (logistic_nonneg _)

end Cert.Mixer

end
-- ==== Proof.RefVal.lean ====
module

public import proofs.«01_k».proof.Proof.Spec
public import proofs.«01_k».proof.Proof.Gen.ReferenceIdeal.Step
public import Idealize.ShloMosaic.Lib.WordCmp

/-! The reference's values before and after its scan, read at an index. -/

@[expose] public section

set_option maxRecDepth 16384

noncomputable section

namespace Cert.ReferenceIdeal.Val

open Idealize.ShloMosaic Cert.ReferenceIdeal Cert.ReferenceIdeal.Gen Cert.ReferenceIdeal.Step Cert.Mixer

variable (a0 : FVec Ideal S8x4096x1024 .f32) (a1 : FVec Ideal S1024 .f32) (a2 : FVec Ideal S1024x2048 .f32)
  (a3 : FVec Ideal S4x1024 .f32) (a4 : FVec Ideal S1024 .f32) (a5 : FVec Ideal S4x256x256 .f32) (a6 : FVec Ideal S1024 .f32)
  (a7 : FVec Ideal S4x256x256 .f32) (a8 a9 : FVec Ideal S1024 .f32) (a10 : FVec Ideal S1024x1024 .f32)

/-- The arguments' entries. -/
def par : Par where
  x b n k := if h : n < 4096 then a0 (ix3 b ⟨n, h⟩ k) else 0
  g k := a1 (ix1 k)
  win k c := a2 (ix2 k c)
  cw k c := a3 (ix2 k c)
  cb c := a4 (ix1 c)
  wa q i j := a5 (ix3 q i j)
  ba c := a6 (ix1 c)
  wx q i j := a7 (ix3 q i j)
  bx c := a8 (ix1 c)
  lam c := a9 (ix1 c)
  wo k c := a10 (ix2 k c)

theorem par_x (b : Fin 8) (s : Fin 4096) (k : Fin 1024) : (par a0 a1 a2 a3 a4 a5 a6 a7 a8 a9 a10).x b s.val k = a0 (ix3 b s k) := dif_pos s.isLt

variable (b : Fin 8) (s : Fin 4096) (c : Fin 1024)

/-- The normalised input. -/
theorem v12_at : A_main_v12 (F := Ideal) a0 a1 a2 a3 a4 a5 a6 a7 a8 a9 (ix3 b s c) = normRow ((par a0 a1 a2 a3 a4 a5 a6 a7 a8 a9 a10).x b s.val) (par a0 a1 a2 a3 a4 a5 a6 a7 a8 a9 a10).g c := by
  unfold normRow
  simp only [par_x]
  simp only [par]
  pointwise [A_main_v12, A_main_v9, A_main_v8, A_main_v7, A_main_v6, A_main_v4, A_main_v2, A_main_v1, A_main_v0, A_main_v11, A_main_v10, K_main_cst, K_main_cst_0, K_main_cst_1, K_main_v3, K_main_v5]
  try rw [zero_add]

/-- The recurrent branch. -/
theorem v14_at : A_main_v14 (F := Ideal) a0 a1 a2 a3 a4 a5 a6 a7 a8 a9 (ix3 b s c) = uAt (par a0 a1 a2 a3 a4 a5 a6 a7 a8 a9 a10) b s.val c := by
  unfold uAt proj
  simp only [← v12_at]
  simp only [par, ucol]
  pointwise [A_main_v14, A_main_v13]
  try rfl

/-- The padded branch, `k` rows down. -/
theorem v15_at (k : ℕ) (hk : k + s.val < 4099) (h3 : k ≤ 3) :
    A_main_v15 (F := Ideal) a0 a1 a2 a3 a4 a5 a6 a7 a8 a9 (ix3 b ⟨k + s.val, hk⟩ c) = tapAt (par a0 a1 a2 a3 a4 a5 a6 a7 a8 a9 a10) b s.val k c := by
  unfold tapAt
  pointwise [A_main_v15, K_main_call0_v0, K_main_c]
  by_cases h : 3 ≤ k + s.val
  · have h' : k + s.val - 3 < 4096 := by omega
    rw [dif_pos ⟨h, h'⟩, if_pos (by omega), v14_at _ _ _ _ _ _ _ _ _ _ a10, Nat.add_comm s.val k]
  · rw [dif_neg (fun e => h e.1), if_neg (by omega)]
    show (((0#32 : BitVec 32).toInt : ℝ) : EReal) = 0
    simp

/-- The convolved branch. -/
theorem v47_at : A_main_v47 (F := Ideal) a0 a1 a2 a3 a4 a5 a6 a7 a8 a9 (ix3 b s c) = convAt (par a0 a1 a2 a3 a4 a5 a6 a7 a8 a9 a10) b s.val c := by
  have hs := s.isLt
  have h0 := v15_at a0 a1 a2 a3 a4 a5 a6 a7 a8 a9 a10 b s c 0 (by omega) (by omega)
  simp only [Nat.zero_add] at h0
  unfold convAt
  rw [← h0, ← v15_at a0 a1 a2 a3 a4 a5 a6 a7 a8 a9 a10 b s c 1 (by omega) (by omega), ← v15_at a0 a1 a2 a3 a4 a5 a6 a7 a8 a9 a10 b s c 2 (by omega) (by omega),
    ← v15_at a0 a1 a2 a3 a4 a5 a6 a7 a8 a9 a10 b s c 3 (by omega) (by omega)]
  pointwise [A_main_v47, A_main_v46, A_main_v45, A_main_v44, A_main_v43, A_main_v42, A_main_v41, A_main_v40, A_main_v39, A_main_v38, A_main_v37, A_main_v36, A_main_v35, A_main_v34, A_main_v33, A_main_v32, A_main_v31, A_main_v30, A_main_v29, A_main_v28, A_main_v27, A_main_v26, A_main_v25, A_main_v24, A_main_v23, A_main_v21, A_main_v20, A_main_v19, A_main_v18, A_main_v17, A_main_v16, K_main_v22, K_main_cst_2]
  simp only [par]
  try rfl

/-- The gate `r` before its logistic. -/
theorem v54_at : A_main_v54 (F := Ideal) a0 a1 a2 a3 a4 a5 a6 a7 a8 a9 (ix3 b s c) = preGate (par a0 a1 a2 a3 a4 a5 a6 a7 a8 a9 a10) b (par a0 a1 a2 a3 a4 a5 a6 a7 a8 a9 a10).wa (par a0 a1 a2 a3 a4 a5 a6 a7 a8 a9 a10).ba s.val c := by
  unfold preGate
  simp only [← v47_at]
  simp only [par]
  pointwise [A_main_v54, A_main_v53, A_main_v52, A_main_v51, A_main_v50, A_main_v49, A_main_v48]
  exact Ideal.add_congr (Finset.sum_congr rfl fun i _ => mul_comm _ _) rfl

/-- The gate `i` before its logistic. -/
theorem v66_at : A_main_v66 (F := Ideal) a0 a1 a2 a3 a4 a5 a6 a7 a8 a9 (ix3 b s c) = preGate (par a0 a1 a2 a3 a4 a5 a6 a7 a8 a9 a10) b (par a0 a1 a2 a3 a4 a5 a6 a7 a8 a9 a10).wx (par a0 a1 a2 a3 a4 a5 a6 a7 a8 a9 a10).bx s.val c := by
  unfold preGate
  simp only [← v47_at]
  simp only [par]
  pointwise [A_main_v66, A_main_v65, A_main_v64, A_main_v63, A_main_v62, A_main_v61, A_main_v48]
  exact Ideal.add_congr (Finset.sum_congr rfl fun i _ => mul_comm _ _) rfl

/-- The scan's logarithms. -/
theorem v79_at : A_main_v79 (F := Ideal) a0 a1 a2 a3 a4 a5 a6 a7 a8 a9 (ix3 b s c) = lAt (par a0 a1 a2 a3 a4 a5 a6 a7 a8 a9 a10) b s.val c := by
  unfold lAt logA softplus Ideal.logistic
  rw [← v54_at]
  simp only [par]
  pointwise [A_main_v79, A_main_v78, A_main_v77, A_main_v76, A_main_v75, A_main_v74, A_main_v60, A_main_v58, A_main_v56, A_main_v55, A_main_call1_v1, A_main_call1_v3, A_main_call1_v4, A_main_call1_v6, A_main_call1_v7, A_main_call1_v8, A_main_call1_v9, A_main_call1_v10, A_main_call1_v11, K_main_call1_v0, K_main_call1_v2, K_main_call1_v5, K_main_call1_cst, K_main_cst_7, K_main_v73, K_main_v57, K_main_v59, K_main_cst_3, K_main_cst_4]
  rw [if_neg (not_not_intro rfl)]
  rfl

/-- The scan's factors, the row's axis in front. -/
theorem v89_at : A_main_v89 (F := Ideal) a0 a1 a2 a3 a4 a5 a6 a7 a8 a9 (ix3 s b c) = Mixer.aAt (par a0 a1 a2 a3 a4 a5 a6 a7 a8 a9 a10) b s.val c := by
  unfold Mixer.aAt
  rw [← v79_at]
  pointwise [A_main_v89, A_main_v80]
  try rfl

/-- The scan's summands, the row's axis in front. -/
theorem v90_at : A_main_v90 (F := Ideal) a0 a1 a2 a3 a4 a5 a6 a7 a8 a9 (ix3 s b c) = Mixer.bAt (par a0 a1 a2 a3 a4 a5 a6 a7 a8 a9 a10) b s.val c := by
  unfold Mixer.bAt Ideal.logistic
  rw [← v79_at, ← v66_at, ← v47_at]
  pointwise [A_main_v90, A_main_v87, A_main_v86, A_main_v85, A_main_v84, A_main_v83, A_main_v82, A_main_v72, A_main_v70, A_main_v68, A_main_v67, K_main_v81, K_main_cst_8, K_main_v71, K_main_cst_6, K_main_v69, K_main_cst_5]

end Cert.ReferenceIdeal.Val

end
-- ==== Proof.RefOut.lean ====
module

public import proofs.«01_k».proof.Proof.RefVal
public import proofs.«01_k».proof.Proof.RefRun

/-! The reference's scan, trip by trip, and its result at an index. -/

@[expose] public section

set_option maxRecDepth 16384

noncomputable section

namespace Cert.ReferenceIdeal.Val

open Idealize.ShloMosaic Cert.ReferenceIdeal Cert.ReferenceIdeal.Gen Cert.ReferenceIdeal.Step Cert.Mixer

/-- Where trip `j` slices and updates: row `j`, from the first sequence and column. -/
abbrev start (j : ℕ) : Fin 3 → ℤ := fun k =>
  (((![(constantI S_ 32 (BitVec.ofNat 32 j) : (⟨S_, .i32⟩ : BufTy).Contents (Elt Ideal)), constantI S_ 32 0#32, constantI S_ 32 0#32]
    : Fin 3 → (⟨S_, .i32⟩ : BufTy).Contents (Elt Ideal))) k (Shape.Idx.first h_S_)).toInt

theorem start_0 (ht : S1x8x1024.rank = S4096x8x1024.rank) (j : ℕ) (hj : j < 4096) :
    Host.clampedStart S4096x8x1024 S1x8x1024 ht (start j) 0 = j :=
  Host.clampedStart_of_le ht _ _ _ (WordCmp.toInt_ofNat_of_lt (by omega)) (by show j + 1 ≤ 4096; omega)

theorem start_1 (ht : S1x8x1024.rank = S4096x8x1024.rank) (j : ℕ) :
    Host.clampedStart S4096x8x1024 S1x8x1024 ht (start j) 1 = 0 :=
  Host.clampedStart_of_le ht _ _ _ rfl (by show 0 + 8 ≤ 8; omega)

theorem start_2 (ht : S1x8x1024.rank = S4096x8x1024.rank) (j : ℕ) :
    Host.clampedStart S4096x8x1024 S1x8x1024 ht (start j) 2 = 0 :=
  Host.clampedStart_of_le ht _ _ _ rfl (by show 0 + 1024 ≤ 1024; omega)

/-- Row `j` of the transposed factors. -/
theorem b3_at (j : ℕ) (hj : j < 4096) (s : State Ideal) (b : Fin 8) (c : Fin 1024) :
    b3 (F := Ideal) j s (ix2 b c) = s.main_v92_0 (ix3 ⟨j, hj⟩ b c) := by
  pointwise [b3, b2, b1, b0]
  simp only [start_0 _ j hj, start_1, start_2, Nat.zero_add]
  try rfl

/-- Row `j` of the transposed summands. -/
theorem b7_at (j : ℕ) (hj : j < 4096) (s : State Ideal) (b : Fin 8) (c : Fin 1024) :
    b7 (F := Ideal) j s (ix2 b c) = s.main_v92_1 (ix3 ⟨j, hj⟩ b c) := by
  pointwise [b7, b6, b5, b4]
  simp only [start_0 _ j hj, start_1, start_2, Nat.zero_add]
  try rfl

/-- The new state: the factor times the old one, plus the summand. -/
theorem b9_at (j : ℕ) (hj : j < 4096) (s : State Ideal) (b : Fin 8) (c : Fin 1024) :
    b9 (F := Ideal) j s (ix2 b c) = (show FVec Ideal S4096x8x1024 .f32 from s.main_v92_0) (ix3 ⟨j, hj⟩ b c) * (show FVec Ideal S8x1024 .f32 from s.main_v92_3) (ix2 b c) + (show FVec Ideal S4096x8x1024 .f32 from s.main_v92_1) (ix3 ⟨j, hj⟩ b c) := by
  have e3 := b3_at j hj s b c
  have e7 := b7_at j hj s b c
  pointwise [b9, b8]
  rw [e3, e7]

/-- The stack after the trip: row `j` replaced by the new state. -/
theorem b13_at (j : ℕ) (hj : j < 4096) (s : State Ideal) (n : Fin 4096) (b : Fin 8) (c : Fin 1024) :
    b13 (F := Ideal) j s (ix3 n b c) = if n.val = j then b9 (F := Ideal) j s (ix2 b c) else s.main_v92_4 (ix3 n b c) := by
  pointwise [b13, b10, b11, b12]
  simp only [start_0 _ j hj, start_1, start_2, Nat.zero_le, and_true, Nat.sub_zero]
  by_cases h : n.val = j
  · rw [dif_pos (by omega), if_pos h]
  · rw [dif_neg (by omega), if_neg h]

variable (a0 : FVec Ideal S8x4096x1024 .f32) (a1 : FVec Ideal S1024 .f32) (a2 : FVec Ideal S1024x2048 .f32)
  (a3 : FVec Ideal S4x1024 .f32) (a4 : FVec Ideal S1024 .f32) (a5 : FVec Ideal S4x256x256 .f32) (a6 : FVec Ideal S1024 .f32)
  (a7 : FVec Ideal S4x256x256 .f32) (a8 a9 : FVec Ideal S1024 .f32) (a10 : FVec Ideal S1024x1024 .f32)

/-- The states of the loop. -/
def it : ℕ → State Ideal
  | 0 => init (F := Ideal) a0 a1 a2 a3 a4 a5 a6 a7 a8 a9
  | n + 1 => step n (it n)

theorem it_0 (n : ℕ) : (it a0 a1 a2 a3 a4 a5 a6 a7 a8 a9 n).main_v92_0 = A_main_v89 (F := Ideal) a0 a1 a2 a3 a4 a5 a6 a7 a8 a9 := by
  induction n with
  | zero => rfl
  | succ n ih => exact ih

theorem it_1 (n : ℕ) : (it a0 a1 a2 a3 a4 a5 a6 a7 a8 a9 n).main_v92_1 = A_main_v90 (F := Ideal) a0 a1 a2 a3 a4 a5 a6 a7 a8 a9 := by
  induction n with
  | zero => rfl
  | succ n ih => exact ih

/-- Before trip `n` the loop holds the scan's state before row `n`. -/
theorem it_3 (n : ℕ) (hn : n ≤ 4096) (b : Fin 8) (c : Fin 1024) :
    (it a0 a1 a2 a3 a4 a5 a6 a7 a8 a9 n).main_v92_3 (ix2 b c) = hAt (par a0 a1 a2 a3 a4 a5 a6 a7 a8 a9 a10) b n c := by
  induction n with
  | zero =>
    show K_main_v88 (F := Ideal) (ix2 b c) = 0
    pointwise [K_main_v88, K_main_cst_9]
  | succ n ih =>
    have ih := ih (by omega)
    show b9 (F := Ideal) n (it a0 a1 a2 a3 a4 a5 a6 a7 a8 a9 n) (ix2 b c) = _
    rw [b9_at n (by omega)]
    show _ = Mixer.aAt (par a0 a1 a2 a3 a4 a5 a6 a7 a8 a9 a10) b n c * hAt (par a0 a1 a2 a3 a4 a5 a6 a7 a8 a9 a10) b n c + Mixer.bAt (par a0 a1 a2 a3 a4 a5 a6 a7 a8 a9 a10) b n c
    rw [← ih, it_0, it_1]
    exact Ideal.add_congr (Ideal.mul_congr (v89_at a0 a1 a2 a3 a4 a5 a6 a7 a8 a9 a10 b ⟨n, by omega⟩ c) rfl) (v90_at a0 a1 a2 a3 a4 a5 a6 a7 a8 a9 a10 b ⟨n, by omega⟩ c)

/-- Before trip `n` the first `n` rows of the stack hold the states after them. -/
theorem it_4 (n : ℕ) (hn : n ≤ 4096) (s : Fin 4096) (hs : s.val < n) (b : Fin 8) (c : Fin 1024) :
    (it a0 a1 a2 a3 a4 a5 a6 a7 a8 a9 n).main_v92_4 (ix3 s b c) = hAt (par a0 a1 a2 a3 a4 a5 a6 a7 a8 a9 a10) b (s.val + 1) c := by
  induction n with
  | zero => exact absurd hs (Nat.not_lt_zero _)
  | succ n ih =>
    show b13 (F := Ideal) n (it a0 a1 a2 a3 a4 a5 a6 a7 a8 a9 n) (ix3 s b c) = _
    rw [b13_at n (by omega)]
    by_cases h : s.val = n
    · rw [if_pos h, h]
      exact it_3 a0 a1 a2 a3 a4 a5 a6 a7 a8 a9 a10 (n + 1) hn b c
    · rw [if_neg h]
      exact ih (by omega) (by omega)

/-- The reference's result at an index. -/
theorem out_at (b : Fin 8) (s : Fin 4096) (c : Fin 1024) :
    R_main_v124 (F := Ideal) (it a0 a1 a2 a3 a4 a5 a6 a7 a8 a9 4096) a0 a1 a2 a10 (ix3 b s c) = Mixer.outAt (par a0 a1 a2 a3 a4 a5 a6 a7 a8 a9 a10) b s.val c := by
  unfold Mixer.outAt
  rw [par_x]
  simp only [← it_4 a0 a1 a2 a3 a4 a5 a6 a7 a8 a9 a10 4096 le_rfl s s.isLt]
  generalize it a0 a1 a2 a3 a4 a5 a6 a7 a8 a9 4096 = S
  unfold gelu proj normRow
  simp only [par_x]
  simp only [par, gcol]
  pointwise [R_main_v124]

end Cert.ReferenceIdeal.Val

end
-- ==== Proof.KerVal.lean ====
module

public import proofs.«01_k».proof.Proof.Cell
public import proofs.«01_k».proof.Proof.Spec

/-! One grid point of the kernel at an index, over the extended reals: if the staged blocks hold the arguments' entries and
the window buffer the rows before, each value it computes is the mixer's value there. -/

@[expose] public section

set_option maxRecDepth 16384

noncomputable section

namespace Cert.KernelIdeal.Val

open Idealize.ShloMosaic Cert.KernelIdeal Cert.KernelIdeal.Gen Cert.KernelIdeal.Cell Cert.Mixer

variable (P : Par) (b : Fin 8) (s0 : ℕ)
  (x0 : FVec Ideal S1x256x1024 .f32) (x1 : FVec Ideal S1x1024 .f32) (x2 : FVec Ideal S1024x2048 .bf16)
  (x3 : FVec Ideal S4x1024 .f32) (x4 : FVec Ideal S1x1024 .f32) (x5 : FVec Ideal S4x256x256 .bf16)
  (x6 : FVec Ideal S1x1024 .f32) (x7 : FVec Ideal S4x256x256 .bf16) (x8 x9 : FVec Ideal S1x1024 .f32)
  (x10 : FVec Ideal S1024x1024 .bf16) (e : FVec Ideal S264x1024 .f32)

/-- The block of point `s0 / 256` of sequence `b` holds rows `s0` to `s0 + 255`. -/
def HoldsX : Prop := ∀ (r : Fin 256) (k : Fin 1024), x0 (ix3 0 r k) = P.x b (s0 + r.val) k

/-- The window buffer holds the projected rows `s0 - 8` to `s0 + 255`, zero before the sequence. -/
def HoldsExt : Prop :=
  ∀ (n : Fin 264) (c : Fin 1024), e (ix2 n c) = if 8 ≤ s0 + n.val then uAt P b (s0 + n.val - 8) c else 0

variable {P b s0 x0 x1 x2 x3 x4 x5 x6 x7 x8 x9 x10 e}

theorem pay6_at (hx : HoldsX P b s0 x0) (h1 : ∀ k, x1 (ix2 0 k) = P.g k) (h2 : ∀ k c, x2 (ix2 k c) = P.win k c)
    (r : Fin 256) (c : Fin 2048) : k0_pay6 (F := Ideal) x0 x1 x2 (ix2 r c) = proj (P.x b (s0 + r.val)) P.g P.win c := by
  unfold proj normRow
  simp only [← hx _ _, ← h1, ← h2]
  pointwise [k0_pay6, k0_pay5]
  try rfl

/-- The recurrent branch's block. -/
theorem pay9_at (hx : HoldsX P b s0 x0) (h1 : ∀ k, x1 (ix2 0 k) = P.g k) (h2 : ∀ k c, x2 (ix2 k c) = P.win k c)
    (r : Fin 256) (c : Fin 1024) : k0_pay9 (F := Ideal) x0 x1 x2 (ix2 r c) = uAt P b (s0 + r.val) c := by
  unfold uAt
  rw [← pay6_at hx h1 h2 r (ucol c)]
  pointwise [k0_pay9]
  try rfl

/-- The gate's block. -/
theorem pay7_at (hx : HoldsX P b s0 x0) (h1 : ∀ k, x1 (ix2 0 k) = P.g k) (h2 : ∀ k c, x2 (ix2 k c) = P.win k c)
    (r : Fin 256) (c : Fin 1024) : k0_pay7 (F := Ideal) x0 x1 x2 (ix2 r c) = proj (P.x b (s0 + r.val)) P.g P.win (gcol c) := by
  rw [← pay6_at hx h1 h2 r (gcol c)]
  pointwise [k0_pay7]
  try rfl

/-- A row of the window buffer as the convolution reads it. -/
theorem tap_at (he : HoldsExt P b s0 e) (k : Fin 4) (r : Fin 256) (c : Fin 1024) :
    tap (F := Ideal) e k (ix2 r c) = tapAt P b (s0 + r.val) k.val c := by
  have h := he ⟨5 + k.val + r.val, by omega⟩ c
  unfold tapAt
  refine h.trans ?_
  by_cases h3 : 3 ≤ s0 + r.val + k.val
  · rw [if_pos h3, if_pos (by show 8 ≤ s0 + (5 + k.val + r.val); omega)]
    congr 1
    show s0 + (5 + k.val + r.val) - 8 = s0 + r.val + k.val - 3
    omega
  · rw [if_neg h3, if_neg (by show ¬ 8 ≤ s0 + (5 + k.val + r.val); omega)]

/-- The convolved block. -/
theorem conv_at (he : HoldsExt P b s0 e) (h3 : ∀ k c, x3 (ix2 k c) = P.cw k c) (h4 : ∀ c, x4 (ix2 0 c) = P.cb c)
    (r : Fin 256) (c : Fin 1024) : convOf (F := Ideal) x3 x4 e (ix2 r c) = convAt P b (s0 + r.val) c := by
  have t0 : _ = tapAt P b (s0 + r.val) 0 c := tap_at he 0 r c
  have t1 : _ = tapAt P b (s0 + r.val) 1 c := tap_at he 1 r c
  have t2 : _ = tapAt P b (s0 + r.val) 2 c := tap_at he 2 r c
  have t3 : _ = tapAt P b (s0 + r.val) 3 c := tap_at he 3 r c
  unfold convAt
  rw [← h4, ← h3, ← h3, ← h3, ← h3, ← t0, ← t1, ← t2, ← t3]
  pointwise [convOf, k0_pay11, k0_pay10, cwRow]
  ac_rfl

/-- Four products side by side are the block-diagonal product. -/
theorem ladder (f : Fin 1024 → EReal) (w : Fin 4 → Fin 256 → Fin 256 → EReal) (c : Fin 1024) :
    (if h : c.val < 256 then ∑ x : Fin 256, f ⟨x.val, by omega⟩ * w 0 x ⟨c.val, h⟩
      else if h : c.val - 256 < 256 then ∑ x : Fin 256, f ⟨256 + x.val, by omega⟩ * w 1 x ⟨c.val - 256, h⟩
      else if h : c.val - 256 - 256 < 256 then ∑ x : Fin 256, f ⟨512 + x.val, by omega⟩ * w 2 x ⟨c.val - 256 - 256, h⟩
      else ∑ x : Fin 256, f ⟨768 + x.val, by omega⟩ * w 3 x ⟨c.val - 256 - 256 - 256, by omega⟩)
    = ∑ x, f (col (hd c) x) * w (hd c) x (pl c) := by
  have hcl := c.isLt
  have key : ∀ (q : Fin 4) (j : Fin 256) (g : Fin 256 → Fin 1024), q.val = c.val / 256 → j.val = c.val % 256 →
      (∀ x, (g x).val = q.val * 256 + x.val) →
      ∑ x, f (g x) * w q x j = ∑ x, f (col (hd c) x) * w (hd c) x (pl c) := by
    intro q j g hq hj hg
    have e1 : q = hd c := Fin.ext hq
    have e2 : j = pl c := Fin.ext hj
    have e3 : g = col (hd c) := funext fun x => Fin.ext ((hg x).trans (by rw [e1]; rfl))
    rw [e1, e2, e3]
  split
  · exact key 0 _ _ (by show 0 = _; omega) (by show c.val = _; omega) (fun x => by show x.val = 0 * 256 + x.val; omega)
  · split
    · exact key 1 _ _ (by show 1 = _; omega) (by show c.val - 256 = _; omega) (fun x => by show 256 + x.val = 1 * 256 + x.val; omega)
    · split
      · exact key 2 _ _ (by show 2 = _; omega) (by show c.val - 256 - 256 = _; omega) (fun x => by show 512 + x.val = 2 * 256 + x.val; omega)
      · exact key 3 _ _ (by show 3 = _; omega) (by show c.val - 256 - 256 - 256 = _; omega) (fun x => by show 768 + x.val = 3 * 256 + x.val; omega)

/-- The gate `r`. -/
theorem gateR_at (he : HoldsExt P b s0 e) (h3 : ∀ k c, x3 (ix2 k c) = P.cw k c) (h4 : ∀ c, x4 (ix2 0 c) = P.cb c)
    (h5 : ∀ q i j, x5 (ix3 q i j) = P.wa q i j) (h6 : ∀ c, x6 (ix2 0 c) = P.ba c)
    (r : Fin 256) (c : Fin 1024) :
    gateR (F := Ideal) x3 x4 e x5 x6 (ix2 r c) = Ideal.logistic (preGate P b P.wa P.ba (s0 + r.val) c) := by
  have hc := conv_at he h3 h4 r
  unfold preGate
  rw [← h6]
  simp only [← h5, ← hc]
  pointwise [gateR, k0_pay16, k0_pay15, k0_pay14, k0_pay13, k0_pay12, wHead]
  exact congrArg Ideal.logistic (Ideal.add_congr
    (ladder (fun c => convOf (F := Ideal) x3 x4 e (ix2 r c)) (fun q i j => x5 (ix3 q i j)) c) rfl)

/-- The input gate before its logistic. -/
theorem gateI_at (he : HoldsExt P b s0 e) (h3 : ∀ k c, x3 (ix2 k c) = P.cw k c) (h4 : ∀ c, x4 (ix2 0 c) = P.cb c)
    (h7 : ∀ q i j, x7 (ix3 q i j) = P.wx q i j) (h8 : ∀ c, x8 (ix2 0 c) = P.bx c)
    (r : Fin 256) (c : Fin 1024) :
    gateI (F := Ideal) x3 x4 e x7 x8 (ix2 r c) = preGate P b P.wx P.bx (s0 + r.val) c := by
  have hc := conv_at he h3 h4 r
  unfold preGate
  rw [← h8]
  simp only [← h7, ← hc]
  pointwise [gateI, k0_pay17, k0_pay12, wHead]
  exact Ideal.add_congr
    (ladder (fun c => convOf (F := Ideal) x3 x4 e (ix2 r c)) (fun q i j => x7 (ix3 q i j)) c) rfl

/-- The scan's logarithm of a gate value. -/
theorem pay18_at (R : FVec Ideal S256x1024 .f32) (r : Fin 256) (c : Fin 1024) :
    k0_pay18 (F := Ideal) R x9 (ix2 r c) = logA (R (ix2 r c)) (-x9 (ix2 0 c)) := by
  unfold logA softplus
  pointwise [k0_pay18]
  simp only [zero_sub]
  rfl

/-- The scan's factors. -/
theorem aOf_at (he : HoldsExt P b s0 e) (h3 : ∀ k c, x3 (ix2 k c) = P.cw k c) (h4 : ∀ c, x4 (ix2 0 c) = P.cb c)
    (h5 : ∀ q i j, x5 (ix3 q i j) = P.wa q i j) (h6 : ∀ c, x6 (ix2 0 c) = P.ba c) (h9 : ∀ c, x9 (ix2 0 c) = P.lam c)
    (r : Fin 256) (c : Fin 1024) :
    aOf (F := Ideal) x3 x4 e x5 x6 x9 (ix2 r c) = Mixer.aAt P b (s0 + r.val) c := by
  unfold Mixer.aAt lAt
  rw [← gateR_at he h3 h4 h5 h6 r c, ← h9, ← pay18_at]
  pointwise [aOf, k0_pay19]

/-- The scan's summands. -/
theorem bOf_at (he : HoldsExt P b s0 e) (h3 : ∀ k c, x3 (ix2 k c) = P.cw k c) (h4 : ∀ c, x4 (ix2 0 c) = P.cb c)
    (h5 : ∀ q i j, x5 (ix3 q i j) = P.wa q i j) (h6 : ∀ c, x6 (ix2 0 c) = P.ba c)
    (h7 : ∀ q i j, x7 (ix3 q i j) = P.wx q i j) (h8 : ∀ c, x8 (ix2 0 c) = P.bx c) (h9 : ∀ c, x9 (ix2 0 c) = P.lam c)
    (r : Fin 256) (c : Fin 1024) :
    bOf (F := Ideal) x3 x4 e x5 x6 x7 x8 x9 (ix2 r c) = Mixer.bAt P b (s0 + r.val) c := by
  unfold Mixer.bAt
  rw [← mult_eq _ (lAt_nonpos P b (s0 + r.val) c)]
  unfold lAt
  rw [← gateR_at he h3 h4 h5 h6 r c, ← gateI_at he h3 h4 h7 h8 r c, ← conv_at he h3 h4 r c, ← h9, ← pay18_at]
  pointwise [bOf, k0_pay20]

/-- The output block. -/
theorem outOf_at (hx : HoldsX P b s0 x0) (h1 : ∀ k, x1 (ix2 0 k) = P.g k) (h2 : ∀ k c, x2 (ix2 k c) = P.win k c)
    (h10 : ∀ k c, x10 (ix2 k c) = P.wo k c) (hs : FVec Ideal S256x1024 .f32)
    (hh : ∀ (r : Fin 256) (c : Fin 1024), hs (ix2 r c) = hAt P b (s0 + r.val + 1) c) (r : Fin 256) (c : Fin 1024) :
    outOf (F := Ideal) x0 x1 x2 hs x10 (ix3 0 r c) = Mixer.outAt P b (s0 + r.val) c := by
  unfold Mixer.outAt
  simp only [← pay7_at hx h1 h2, ← hh, ← h10]
  rw [← hx]
  unfold gelu
  pointwise [outOf, k0_pay2, k0_pay5]
  simp only [mul_assoc]

/-- The next window buffer: the last eight rows of the one before, then this block's rows. -/
theorem ext_at (e : FVec Ideal S264x1024 .f32) (y : FVec Ideal S256x1024 .f32)
    (he : ∀ (n : Fin 8) (c : Fin 1024), e (ix2 ⟨256 + n.val, by omega⟩ c) = if 8 ≤ s0 + n.val then uAt P b (s0 + n.val - 8) c else 0)
    (hy : ∀ (r : Fin 256) (c : Fin 1024), y (ix2 r c) = uAt P b (s0 + r.val) c) :
    HoldsExt P b s0 (extNext (F := Ideal) e y) := by
  intro n c
  by_cases h : n.val < 8
  · have e1 : extNext (F := Ideal) e y (ix2 n c) = e (ix2 ⟨256 + n.val, by omega⟩ c) := dif_pos h
    exact e1.trans (he ⟨n.val, h⟩ c)
  · have e1 : extNext (F := Ideal) e y (ix2 n c) = y (ix2 ⟨n.val - 8, by omega⟩ c) := dif_neg h
    rw [e1, hy, if_pos (by omega)]
    congr 1
    show s0 + (n.val - 8) = s0 + n.val - 8
    omega

/-- The block's scan: after `k` rows the state is the mixer's. -/
theorem hseq_at (av bv : FVec Ideal S256x1024 .f32) (h0 : FVec Ideal S1x1024 .f32)
    (ha : ∀ (r : Fin 256) (c : Fin 1024), av (ix2 r c) = Mixer.aAt P b (s0 + r.val) c)
    (hb : ∀ (r : Fin 256) (c : Fin 1024), bv (ix2 r c) = Mixer.bAt P b (s0 + r.val) c)
    (hh : ∀ c : Fin 1024, h0 (ix2 0 c) = hAt P b s0 c) (k : ℕ) (hk : k ≤ 256) (c : Fin 1024) :
    hseq (F := Ideal) av bv h0 k (ix2 0 c) = hAt P b (s0 + k) c := by
  induction k with
  | zero => exact hh c
  | succ k ih =>
    have ih := ih (by omega)
    rw [hseq_succ (F := Ideal) av bv h0 k (by omega)]
    show _ = Mixer.aAt P b (s0 + k) c * hAt P b (s0 + k) c + Mixer.bAt P b (s0 + k) c
    rw [← ih, ← ha ⟨k, by omega⟩ c, ← hb ⟨k, by omega⟩ c]
    pointwise [k0_pay21, rowOf]

end Cert.KernelIdeal.Val

end
-- ==== Proof.Blocks.lean ====
module

public import proofs.«01_k».proof.Proof.Body
public import proofs.«01_k».proof.Proof.KerVal
public import proofs.«01_k».proof.Proof.RefVal
public import Idealize.ShloMosaic.Lib.Pipeline.ValueKit

/-! The blocks staged at a grid point, read at an index: the arguments' entries. -/

@[expose] public section

set_option maxRecDepth 16384

noncomputable section

namespace Cert.KernelIdeal.Val

open Idealize.ShloMosaic Idealize.ShloMosaic.TcCoe Cert.KernelIdeal Cert.KernelIdeal.Gen Cert.KernelIdeal.Cell Cert.KernelIdeal.Body Cert.Mixer
open Idealize.ShloMosaic.Pipeline (Dat)

variable (m : (ℓ : Loc nD τ sig) → Buf (Elt Ideal) ℓ) (c : Dev nD)

/-- The entries of the arguments in the kernel's memory. -/
def argPar : Par := Cert.ReferenceIdeal.Val.par (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6)) (m ((c : Thread nD τ).loc main_arg7))
  (m ((c : Thread nD τ).loc main_arg8)) (m ((c : Thread nD τ).loc main_arg9)) (m ((c : Thread nD τ).loc main_arg10))

/-- Which block each window stages at a point. -/
theorem idx : ∀ t : Fin cfg0.N, win0_0.index t = ![t.val / 16, t.val % 16, 0] ∧ win0_1.index t = ![0, 0]
    ∧ win0_2.index t = ![0, 0] ∧ win0_3.index t = ![0, 0] ∧ win0_4.index t = ![0, 0] ∧ win0_5.index t = ![0, 0, 0]
    ∧ win0_6.index t = ![0, 0] ∧ win0_7.index t = ![0, 0, 0] ∧ win0_8.index t = ![0, 0] ∧ win0_9.index t = ![0, 0]
    ∧ win0_10.index t = ![0, 0] ∧ win0_11.index t = ![t.val / 16, t.val % 16, 0] :=
  (by decide +kernel : ∀ t : Fin grid0.N, _)

/-- The sequence a point works on. -/
def seqOf (t : Fin cfg0.N) : Fin 8 := ⟨t.val / 16, by have := Nat.lt_of_lt_of_eq t.isLt N_0; omega⟩

theorem blk0 (t : Fin cfg0.N) (r : Fin 256) (k : Fin 1024) :
    iblk m c 0 t (ix3 0 r k) = (m ((c : Thread nD τ).loc main_arg0)) (ix3 (seqOf t) ⟨t.val % 16 * 256 + r.val, by omega⟩ k) := by
  unfold seqOf
  blk_ext [iblk, V, idx t]

theorem blk1 (t : Fin cfg0.N) (k : Fin 1024) : iblk m c 1 t (ix2 0 k) = m ((c : Thread nD τ).loc main_arg1) (ix1 k) := by
  blk_point [iblk, V, idx t]

theorem blk2 (t : Fin cfg0.N) (k : Fin 1024) (j : Fin 2048) : iblk m c 2 t (ix2 k j) = m ((c : Thread nD τ).loc main_arg2) (ix2 k j) := by
  blk_point [iblk, V, idx t]

theorem blk3 (t : Fin cfg0.N) (k : Fin 4) (j : Fin 1024) : iblk m c 3 t (ix2 k j) = m ((c : Thread nD τ).loc main_arg3) (ix2 k j) := by
  blk_point [iblk, V, idx t]

theorem blk4 (t : Fin cfg0.N) (k : Fin 1024) : iblk m c 4 t (ix2 0 k) = m ((c : Thread nD τ).loc main_arg4) (ix1 k) := by
  blk_point [iblk, V, idx t]

theorem blk5 (t : Fin cfg0.N) (q : Fin 4) (i j : Fin 256) : iblk m c 5 t (ix3 q i j) = m ((c : Thread nD τ).loc main_arg5) (ix3 q i j) := by
  blk_point [iblk, V, idx t]

theorem blk6 (t : Fin cfg0.N) (k : Fin 1024) : iblk m c 6 t (ix2 0 k) = m ((c : Thread nD τ).loc main_arg6) (ix1 k) := by
  blk_point [iblk, V, idx t]

theorem blk7 (t : Fin cfg0.N) (q : Fin 4) (i j : Fin 256) : iblk m c 7 t (ix3 q i j) = m ((c : Thread nD τ).loc main_arg7) (ix3 q i j) := by
  blk_point [iblk, V, idx t]

theorem blk8 (t : Fin cfg0.N) (k : Fin 1024) : iblk m c 8 t (ix2 0 k) = m ((c : Thread nD τ).loc main_arg8) (ix1 k) := by
  blk_point [iblk, V, idx t]

theorem blk9 (t : Fin cfg0.N) (k : Fin 1024) : iblk m c 9 t (ix2 0 k) = m ((c : Thread nD τ).loc main_arg9) (ix1 k) := by
  blk_point [iblk, V, idx t]

theorem blk10 (t : Fin cfg0.N) (k : Fin 1024) (j : Fin 1024) : iblk m c 10 t (ix2 k j) = m ((c : Thread nD τ).loc main_arg10) (ix2 k j) := by
  blk_point [iblk, V, idx t]

end Cert.KernelIdeal.Val

end
-- ==== Proof.Value.lean ====
module

public import proofs.«01_k».proof.Proof.Blocks

/-! The kernel's result array: what the carried buffers hold before each grid point, what each point writes, and the whole
array after the run, in the mixer's scalars. -/

@[expose] public section

set_option maxRecDepth 16384

noncomputable section

namespace Cert.KernelIdeal.Val

open Idealize.ShloMosaic Idealize.ShloMosaic.TcCoe Cert.KernelIdeal Cert.KernelIdeal.Gen Cert.KernelIdeal.Cell Cert.KernelIdeal.Body Cert.Mixer
open Idealize.ShloMosaic.Pipeline (Dat)

variable (m : (ℓ : Loc nD τ sig) → Buf (Elt Ideal) ℓ) (c : Dev nD)

/-- The first row a point works on. -/
def row0 (t : Fin cfg0.N) : ℕ := t.val % 16 * 256

theorem holdsX (t : Fin cfg0.N) : HoldsX (argPar m c) (seqOf t) (row0 t) (iblk m c 0 t) := fun r k =>
  (blk0 m c t r k).trans (Cert.ReferenceIdeal.Val.par_x _ _ _ _ _ _ _ _ _ _ _ (seqOf t) ⟨t.val % 16 * 256 + r.val, by omega⟩ k).symm

/-- What the two carried buffers hold before a point. -/
def HoldsCarry (t : Fin cfg0.N) (e : Carry Ideal) : Prop :=
  (∀ (n : Fin 8) (j : Fin 1024), e.1 (ix2 ⟨256 + n.val, by omega⟩ j)
      = if 8 ≤ row0 t + n.val then uAt (argPar m c) (seqOf t) (row0 t + n.val - 8) j else 0)
    ∧ ∀ j : Fin 1024, e.2 (ix2 0 j) = hAt (argPar m c) (seqOf t) (row0 t) j

variable {m c}

theorem ext_holds (t : Fin cfg0.N) (e : Carry Ideal) (he : HoldsCarry m c t e) :
    HoldsExt (argPar m c) (seqOf t) (row0 t) (extAt m c t e) :=
  ext_at _ _ he.1 (pay9_at (holdsX m c t) (blk1 m c t) (blk2 m c t))

theorem a_at (t : Fin cfg0.N) (e : Carry Ideal) (he : HoldsCarry m c t e) (r : Fin 256) (j : Fin 1024) :
    Body.aAt m c t e (ix2 r j) = Mixer.aAt (argPar m c) (seqOf t) (row0 t + r.val) j :=
  aOf_at (ext_holds t e he) (blk3 m c t) (blk4 m c t) (blk5 m c t) (blk6 m c t) (blk9 m c t) r j

theorem b_at (t : Fin cfg0.N) (e : Carry Ideal) (he : HoldsCarry m c t e) (r : Fin 256) (j : Fin 1024) :
    Body.bAt m c t e (ix2 r j) = Mixer.bAt (argPar m c) (seqOf t) (row0 t + r.val) j :=
  bOf_at (ext_holds t e he) (blk3 m c t) (blk4 m c t) (blk5 m c t) (blk6 m c t) (blk7 m c t) (blk8 m c t) (blk9 m c t) r j

theorem h_at (t : Fin cfg0.N) (e : Carry Ideal) (he : HoldsCarry m c t e) (k : ℕ) (hk : k ≤ 256) (j : Fin 1024) :
    hseq (Body.aAt m c t e) (Body.bAt m c t e) (hInit e.2) k (ix2 0 j) = hAt (argPar m c) (seqOf t) (row0 t + k) j :=
  hseq_at _ _ _ (a_at t e he) (b_at t e he) he.2 k hk j

/-- The block a point writes. -/
theorem out_at (t : Fin cfg0.N) (e : Carry Ideal) (he : HoldsCarry m c t e) (r : Fin 256) (j : Fin 1024) :
    Body.outAt m c t e (ix3 0 r j) = Mixer.outAt (argPar m c) (seqOf t) (row0 t + r.val) j :=
  outOf_at (holdsX m c t) (blk1 m c t) (blk2 m c t) (blk10 m c t) _
    (fun r j => h_at t e he (r.val + 1) r.isLt j) r j

/-- A sequence begins with empty carried buffers. -/
theorem carry_zero (t : Fin cfg0.N) (h0 : t.val % 16 = 0) : HoldsCarry m c t carry0 := by
  have e0 : row0 t = 0 := by unfold row0; rw [h0]
  refine ⟨fun n j => ?_, fun j => ?_⟩
  · rw [e0, if_neg (by omega)]
    show k0_pay3 (F := Ideal) (ix2 ⟨256 + n.val, by omega⟩ j) = 0
    pointwise [k0_pay3]
  · rw [e0]
    show k0_pay4 (F := Ideal) (ix2 0 j) = 0
    pointwise [k0_pay4]

/-- What a point leaves is what the next point of its sequence expects. -/
theorem carry_step (t t' : Fin cfg0.N) (ht : t'.val = t.val + 1) (h0 : t'.val % 16 ≠ 0) (e : Carry Ideal) (he : HoldsCarry m c t e) :
    HoldsCarry m c t' (leave m c t e) := by
  have hb : seqOf t' = seqOf t := Fin.ext (by show t'.val / 16 = t.val / 16; omega)
  have hr : row0 t' = row0 t + 256 := by unfold row0; omega
  refine ⟨fun n j => ?_, fun j => ?_⟩
  · rw [hb, hr]
    refine (ext_holds t e he ⟨256 + n.val, by omega⟩ j).trans ?_
    rw [if_pos (by show 8 ≤ row0 t + (256 + n.val); omega), if_pos (by omega)]
    congr 1
    show row0 t + (256 + n.val) - 8 = row0 t + 256 + n.val - 8
    omega
  · rw [hb, hr]
    exact h_at t e he 256 le_rfl j

/-- Before every point the carried buffers hold what the mixer's rows before it leave. -/
theorem carry_at : ∀ (n : ℕ) (hn : n < cfg0.N), HoldsCarry m c ⟨n, hn⟩ (entry m c n hn)
  | 0, hn => carry_zero ⟨0, hn⟩ rfl
  | n + 1, hn => by
    by_cases h0 : (n + 1) % 16 = 0
    · rw [entry_reset m c ⟨n + 1, hn⟩ h0]
      exact carry_zero ⟨n + 1, hn⟩ h0
    · rw [entry_next m c n hn h0]
      exact carry_step ⟨n, Nat.lt_of_succ_lt hn⟩ ⟨n + 1, hn⟩ rfl h0 _ (carry_at n _)

/-- The mixer's result over the kernel's arguments. -/
def result (m : (ℓ : Loc nD τ sig) → Buf (Elt Ideal) ℓ) (c : Dev nD) : FVec Ideal S8x4096x1024 .f32 :=
  fun i => Mixer.outAt (argPar m c) (i 0) (i 1).val (i 2)

/-- The result array after the run. -/
theorem final (m : (ℓ : Loc nD τ sig) → Buf (Elt Ideal) ℓ) (c : Dev nD) : (dats m 0 c).arrAt 11 (cfgs 0).N = result m c := by
  refine (dats m 0 c).arrAt_eq_of_covers 11 _ (by decide +kernel) fun t _ y => ?_
  blk_simp
  rw [after0_11]
  obtain ⟨z, r, j, rfl⟩ : ∃ (z : Fin 1) (r : Fin 256) (j : Fin 1024), y = ix3 z r j := ⟨y 0, y 1, y 2, eq_ix3 y⟩
  obtain rfl : z = 0 := Subsingleton.elim _ _
  have hi : (win0_11.blk t).view.emb (ix3 0 r j) = ix3 (seqOf t) ⟨row0 t + r.val, by unfold row0; omega⟩ j := by
    unfold seqOf row0
    blk_ext [idx t]
  rw [hi]
  exact out_at t _ (carry_at t.val t.isLt) r j

end Cert.KernelIdeal.Val

end
-- ==== Proof.QkvFinite.lean ====
module

public import proofs.«01_k».proof.Defs
public import Idealize.ShloMosaic.Lib.Claim

/-! What the precondition says over the extended reals: the norm's gain and the weight are real at every index. -/

@[expose] public section

noncomputable section

namespace Cert.Pre_finite

open Idealize.ShloMosaic

/-- The two broadcasts of the bound. -/
theorem facts : Cert.Pre_finite.Facts := ⟨by decide, by decide⟩

/-- A value whose magnitude is below the largest bound is real. -/
theorem real_of_lt (x : EReal) (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  induction x using EReal.rec with
  | bot => simp [Ideal.cmp] at h
  | top => simp [Ideal.cmp] at h
  | coe r => exact ⟨r, rfl⟩

variable [Cert.Pre_finite.Facts]

theorem real_one (a0 : FVec Ideal S8x4096x1024 .f32) (a1 : FVec Ideal S1024 .f32) (a2 : FVec Ideal S1024x3072 .f32) (a3 a4 : FVec Ideal S64 .f32)
    (h : (fn (F := Ideal) a0 a1 a2 a3 a4).1 = fun _ => 1#1) (i : S1024.Idx) : ∃ r : ℝ, (a1 i : EReal) = (r : EReal) :=
  real_of_lt _ (congrFun h i)

theorem real_two (a0 : FVec Ideal S8x4096x1024 .f32) (a1 : FVec Ideal S1024 .f32) (a2 : FVec Ideal S1024x3072 .f32) (a3 a4 : FVec Ideal S64 .f32)
    (h : (fn (F := Ideal) a0 a1 a2 a3 a4).2 = fun _ => 1#1) (i : S1024x3072.Idx) : ∃ r : ℝ, (a2 i : EReal) = (r : EReal) :=
  real_of_lt _ (congrFun h i)

end Cert.Pre_finite

end
-- ==== Proof.QkvSpec.lean ====
module

public import proofs.«01_k».proof.Proof.Spec

/-! One row of the projection to queries, keys and values, in scalars: what both programs compute, and why the kernel's head norms,
taken through two 0/1 matrices and through a value split into a part and a remainder, are the norms of each head's columns. -/

@[expose] public section

noncomputable section

namespace Cert.Qkv

open Idealize.ShloMosaic Cert.Mixer

/-- The pattern of `64.0`. -/
theorem ofBits_64 : Ideal.ofBits .f32 0x42800000#32 = ((64 : ℝ) : EReal) := by
  simp [Ideal.ofBits, Ideal.ieee, -EReal.coe_mul, -EReal.coe_neg]; norm_num

/-- The pattern of `1024.0`. -/
theorem ofBits_1024 : Ideal.ofBits .f32 0x44800000#32 = ((1024 : ℝ) : EReal) := by
  simp [Ideal.ofBits, Ideal.ieee, -EReal.coe_mul, -EReal.coe_neg]; norm_num

/-- The pattern of the norms' small summand is a positive real. -/
theorem ofBits_eps : ∃ e : ℝ, 0 < e ∧ Ideal.ofBits .f32 0x358637BD#32 = (e : EReal) := by
  simp only [Ideal.ofBits, Ideal.ieee]
  norm_num
  refine ⟨_, ?_, (EReal.coe_mul _ _).symm⟩
  positivity

/-- The column at place `j` of head `h`. -/
def hcol (h : Fin 16) (j : Fin 64) : Fin 1024 := ⟨h.val * 64 + j.val, by omega⟩

/-- The head a column belongs to. -/
def hd (c : Fin 1024) : Fin 16 := ⟨c.val / 64, by omega⟩

/-- A column's place in its head. -/
def pl (c : Fin 1024) : Fin 64 := ⟨c.val % 64, by omega⟩

/-- The factor that scales head `h` of a row to unit mean square. -/
def headScale (y : Fin 1024 → EReal) (h : Fin 16) : EReal :=
  Ideal.rsqrt (Ideal.div (∑ j, y (hcol h j) * y (hcol h j)) (Ideal.ofBits .f32 0x42800000#32) + Ideal.ofBits .f32 0x358637BD#32)

/-- A third of the projected row: a normalised row times `1024` columns. -/
def third (x g : Fin 1024 → EReal) (w : Fin 1024 → Fin 1024 → EReal) (c : Fin 1024) : EReal := ∑ k, normRow x g k * w k c

/-- An entry of the queries or of the keys, before the queries' scale. -/
def headed (x g : Fin 1024 → EReal) (w : Fin 1024 → Fin 1024 → EReal) (hg : Fin 64 → EReal) (c : Fin 1024) : EReal :=
  third x g w c * headScale (third x g w) (hd c) * hg (pl c)

/-- Column `c` of part `t` of the projection: the queries, the keys, the values. -/
def tcol (t : Fin 3) (c : Fin 1024) : Fin 3072 := ⟨t.val * 1024 + c.val, by omega⟩

/-- An entry of one row of the result: the queries take the attention's scale, the values no norm. -/
def outAt (x g : Fin 1024 → EReal) (w : Fin 1024 → Fin 3072 → EReal) (qg kg : Fin 64 → EReal) (t : Fin 3) (c : Fin 1024) : EReal :=
  if t.val = 0 then headed x g (fun k c => w k (tcol t c)) qg c * Ideal.ofBits .f32 0x3E000000#32
  else if t.val = 1 then headed x g (fun k c => w k (tcol t c)) kg c
  else third x g (fun k c => w k (tcol t c)) c

section
variable (x g : Fin 1024 → EReal) (w : Fin 1024 → Fin 3072 → EReal) (qg kg : Fin 64 → EReal) (c : Fin 1024)

theorem outAt_zero : outAt x g w qg kg 0 c = headed x g (fun k c => w k (tcol 0 c)) qg c * Ideal.ofBits .f32 0x3E000000#32 := if_pos rfl

theorem outAt_one : outAt x g w qg kg 1 c = headed x g (fun k c => w k (tcol 1 c)) kg c := (if_neg (by decide)).trans (if_pos rfl)

theorem outAt_two : outAt x g w qg kg 2 c = third x g (fun k c => w k (tcol 2 c)) c := (if_neg (by decide)).trans (if_neg (by decide))

end

/-- A column's entry in the matrix that takes a head's mean. -/
def bsel (c : Fin 1024) (l : Fin 128) : EReal := Ideal.div (if c.val / 64 = l.val then 1 else 0) (Ideal.ofBits .f32 0x42800000#32)

/-- A column's entry in the matrix that spreads a head's factor over its columns. -/
def bexp (l : Fin 128) (c : Fin 1024) : EReal := if l.val = c.val / 64 then 1 else 0

/-- The factors the kernel takes, one per lane. -/
def laneScale (y : Fin 1024 → EReal) (l : Fin 128) : EReal :=
  Ideal.rsqrt ((∑ c, y c * y c * bsel c l) + (∑ c, (y c * y c - y c * y c) * bsel c l) + Ideal.ofBits .f32 0x358637BD#32)

/-- The kernel's factor at a column. -/
def spread (y : Fin 1024 → EReal) (c : Fin 1024) : EReal :=
  (∑ l, laneScale y l * bexp l c) + ∑ l, (laneScale y l - laneScale y l) * bexp l c

/-- A sum of reals, taken over the extended reals. -/
theorem coe_sum {ι : Type} [Fintype ι] (f : ι → ℝ) : ((∑ i, f i : ℝ) : EReal) = ∑ i, (f i : EReal) := by
  classical
  induction (Finset.univ : Finset ι) using Finset.induction_on with
  | empty => simp
  | insert a s ha ih => rw [Finset.sum_insert ha, Finset.sum_insert ha, EReal.coe_add, ih]

/-- A nonnegative sum plus the small summand has a real inverse square root. -/
theorem rsqrt_real (v : EReal) (hv : 0 ≤ v) : ∃ r : ℝ, Ideal.rsqrt (v + Ideal.ofBits .f32 0x358637BD#32) = (r : EReal) := by
  obtain ⟨e, he, h⟩ := ofBits_eps
  rw [h]
  induction v with
  | bot => exact absurd hv (by simp)
  | top => exact ⟨0, by rw [EReal.top_add_of_ne_bot (EReal.coe_ne_bot _)]; simp⟩
  | coe r =>
    have hr : (0 : ℝ) ≤ r := EReal.coe_nonneg.1 hv
    rw [← EReal.coe_add, Ideal.rsqrt_coe, if_neg (by linarith), if_neg (by linarith)]
    exact ⟨_, rfl⟩

/-- A square is never negative. -/
theorem sq_nonneg' (x : EReal) : 0 ≤ x * x := by
  induction x with
  | bot => simp
  | top => simp
  | coe r => rw [← EReal.coe_mul]; exact EReal.coe_nonneg.2 (mul_self_nonneg r)

/-- The mean square of a row is never negative. -/
theorem mean_nonneg (s : EReal) (hs : 0 ≤ s) (r : ℝ) (hr : 0 < r) : 0 ≤ Ideal.div s (r : EReal) := by
  rw [Ideal.div_coe hr.ne']
  exact mul_nonneg hs (EReal.coe_nonneg.2 (by positivity))

/-- Where the mean square is infinite the factor is zero, so a normalised entry is real whatever the row holds. -/
theorem normRow_real (x g : Fin 1024 → EReal) (hg : ∀ k, ∃ r : ℝ, g k = (r : EReal)) (k : Fin 1024) :
    ∃ r : ℝ, normRow x g k = (r : EReal) := by
  obtain ⟨e, he, h⟩ := ofBits_eps
  obtain ⟨b, hb⟩ := hg k
  have key : ∃ r : ℝ, x k * Ideal.rsqrt (Ideal.div (∑ l, x l * x l) (Ideal.ofBits .f32 0x44800000#32) + Ideal.ofBits .f32 0x358637BD#32)
      = (r : EReal) := by
    have hs : 0 ≤ ∑ l, x l * x l := Finset.sum_nonneg fun l _ => sq_nonneg' (x l)
    by_cases hx : ∃ r : ℝ, x k = (r : EReal)
    · obtain ⟨a, ha⟩ := hx
      obtain ⟨r, hr⟩ := rsqrt_real (Ideal.div (∑ l, x l * x l) (Ideal.ofBits .f32 0x44800000#32))
        (by rw [ofBits_1024]; exact mean_nonneg _ hs _ (by norm_num))
      exact ⟨a * r, by rw [hr, ha, EReal.coe_mul]⟩
    · have hk : x k * x k = ⊤ := by
        induction hxk : x k with
        | bot => simp
        | top => simp
        | coe r => exact absurd ⟨r, hxk⟩ hx
      have ht : ∑ l, x l * x l = ⊤ := by
        refine top_le_iff.1 ?_
        rw [← hk]
        exact Finset.single_le_sum (f := fun l => x l * x l) (fun l _ => sq_nonneg' (x l)) (Finset.mem_univ k)
      refine ⟨0, ?_⟩
      rw [ht, ofBits_1024, Ideal.div_coe (by norm_num), EReal.top_mul_coe_of_pos (by norm_num), h,
        EReal.top_add_of_ne_bot (EReal.coe_ne_bot _), Ideal.rsqrt_top, mul_zero]
      rfl
  obtain ⟨a, ha⟩ := key
  exact ⟨a * b, by unfold normRow; rw [ha, hb, EReal.coe_mul]⟩

/-- Hence so is an entry of the projection. -/
theorem third_real (x g : Fin 1024 → EReal) (w : Fin 1024 → Fin 1024 → EReal) (hg : ∀ k, ∃ r : ℝ, g k = (r : EReal))
    (hw : ∀ k c, ∃ r : ℝ, w k c = (r : EReal)) (c : Fin 1024) : ∃ r : ℝ, third x g w c = (r : EReal) := by
  choose a ha using normRow_real x g hg
  choose b hb using fun k => hw k c
  refine ⟨∑ k, a k * b k, ?_⟩
  unfold third
  rw [coe_sum]
  exact Finset.sum_congr rfl fun k _ => by rw [ha, hb, EReal.coe_mul]

/-- A head's columns among all of them. -/
theorem sum_head (f : Fin 1024 → ℝ) (h : Fin 16) : (∑ c : Fin 1024, if c.val / 64 = h.val then f c else 0) = ∑ j, f (hcol h j) := by
  rw [← Finset.sum_filter]
  refine (Finset.sum_nbij' (fun j => hcol h j) (fun c => pl c) ?_ ?_ ?_ ?_ ?_).symm
  · intro j _
    simp only [Finset.mem_filter, Finset.mem_univ, true_and, hcol]
    omega
  · intro c _
    exact Finset.mem_univ _
  · intro j _
    refine Fin.ext ?_
    simp only [pl, hcol]
    omega
  · intro c hc
    simp only [Finset.mem_filter, Finset.mem_univ, true_and] at hc
    refine Fin.ext ?_
    simp only [pl, hcol]
    omega
  · intro j _
    rfl

/-- An entry of the averaging matrix, as a real. -/
theorem bsel_real (c : Fin 1024) (l : Fin 128) : bsel c l = ((if c.val / 64 = l.val then 1 / 64 else 0 : ℝ) : EReal) := by
  unfold bsel
  rw [ofBits_64, Ideal.div_coe (by norm_num)]
  split
  · rw [one_mul]
  · rw [zero_mul]; rfl

/-- Over real entries, the kernel's sum is the sum of one lane's columns and the remainder's sum is zero. -/
theorem lane_sum (y : Fin 1024 → EReal) (Y : Fin 1024 → ℝ) (hY : ∀ c, y c = (Y c : EReal)) (l : Fin 128) :
    (∑ c, y c * y c * bsel c l) + (∑ c, (y c * y c - y c * y c) * bsel c l)
      = ((∑ c, (if c.val / 64 = l.val then Y c * Y c * (1 / 64) else 0) : ℝ) : EReal) := by
  have e1 : ∀ c, y c * y c * bsel c l = ((if c.val / 64 = l.val then Y c * Y c * (1 / 64) else 0 : ℝ) : EReal) := fun c => by
    rw [hY, bsel_real, ← EReal.coe_mul, ← EReal.coe_mul]
    congr 1
    split
    · rfl
    · rw [mul_zero]
  have e2 : ∀ c, (y c * y c - y c * y c) * bsel c l = 0 := fun c => by
    rw [hY, ← EReal.coe_mul, ← EReal.coe_sub, sub_self, EReal.coe_zero, zero_mul]
  rw [Finset.sum_congr rfl fun c _ => e1 c, Finset.sum_congr rfl fun c _ => e2 c, Finset.sum_const_zero, add_zero, coe_sum]

/-- A lane's factor is real. -/
theorem lane_real (y : Fin 1024 → EReal) (Y : Fin 1024 → ℝ) (hY : ∀ c, y c = (Y c : EReal)) (l : Fin 128) :
    ∃ r : ℝ, laneScale y l = (r : EReal) := by
  unfold laneScale
  rw [lane_sum y Y hY]
  refine rsqrt_real _ (EReal.coe_nonneg.2 (Finset.sum_nonneg fun c _ => ?_))
  split
  · exact mul_nonneg (mul_self_nonneg _) (by norm_num)
  · exact le_rfl

/-- The lane a head occupies. -/
def lane (h : Fin 16) : Fin 128 := ⟨h.val, by omega⟩

/-- A head's lane holds the head's factor. -/
theorem lane_head (y : Fin 1024 → EReal) (Y : Fin 1024 → ℝ) (hY : ∀ c, y c = (Y c : EReal)) (h : Fin 16) :
    laneScale y (lane h) = headScale y h := by
  unfold laneScale headScale
  have e := sum_head (fun c => Y c * Y c * (1 / 64)) h
  rw [lane_sum y Y hY]
  show Ideal.rsqrt (((∑ c : Fin 1024, if c.val / 64 = h.val then Y c * Y c * (1 / 64) else 0 : ℝ) : EReal) + _) = _
  rw [e, ofBits_64, Ideal.div_coe (by norm_num), ← Finset.sum_mul, EReal.coe_mul, coe_sum]
  simp only [hY, EReal.coe_mul]

/-- So the kernel's factor at a column is that of the column's head. -/
theorem spread_eq (y : Fin 1024 → EReal) (hy : ∀ c, ∃ r : ℝ, y c = (r : EReal)) (c : Fin 1024) : spread y c = headScale y (hd c) := by
  choose Y hY using hy
  have e2 : ∀ l, (laneScale y l - laneScale y l) * bexp l c = 0 := fun l => by
    obtain ⟨r, hr⟩ := lane_real y Y hY l
    rw [hr, ← EReal.coe_sub, sub_self, EReal.coe_zero, zero_mul]
  unfold spread
  rw [Finset.sum_congr rfl fun l _ => e2 l, Finset.sum_const_zero, add_zero, Finset.sum_eq_single (lane (hd c))]
  · rw [lane_head y Y hY]
    have e : bexp (lane (hd c)) c = 1 := if_pos rfl
    rw [e, mul_one]
  · intro l _ hl
    have e : bexp l c = 0 := if_neg fun e => hl (Fin.ext e)
    rw [e, mul_zero]
  · intro hn
    exact absurd (Finset.mem_univ _) hn

end Cert.Qkv

end
-- ==== Proof.QkvKer.lean ====
module

public import proofs.«01_k».proof.Proof.QkvSpec
public import proofs.«01_k».proof.Proof.Gen.Kernel2Ideal.Frame

/-! One grid point of the projection kernel at an index: what it leaves in its row buffer and in its output block. -/

@[expose] public section

set_option maxRecDepth 16384

noncomputable section

namespace Cert.Kernel2Ideal.Val

open Idealize.ShloMosaic Idealize.ShloMosaic.TcCoe Cert.Kernel2Ideal Cert.Kernel2Ideal.Gen Cert.Qkv
open Cert.Mixer (normRow)

variable (x0 : FVec Ideal S512x1024 .f32) (x1 : FVec Ideal S1x1024 .f32) (xn : FVec Ideal S512x1024 .bf16)
  (x2 : FVec Ideal S1024x1024 .bf16) (x3 : FVec Ideal S1x1x1024 .f32) (x4 : FVec Ideal S1024x128 .bf16) (x5 : FVec Ideal S128x1024 .bf16)
  (r : Fin 512) (c : Fin 1024)

/-- The normalised rows. -/
theorem pay1_at : k0_pay1 (F := Ideal) x0 x1 (ix2 r c) = normRow (fun k => x0 (ix2 r k)) (fun k => x1 (ix2 0 k)) c := by
  unfold normRow
  pointwise [k0_pay1]
  try rfl

/-- Their product with a block of the weight. -/
theorem pay2_at : k0_pay2 (F := Ideal) xn x2 (ix2 r c) = ∑ k, xn (ix2 r k) * x2 (ix2 k c) := by
  pointwise [k0_pay2]
  try rfl

theorem pay4_at : k0_pay4 (F := Ideal) xn x2 (ix2 r c) = ∑ k, xn (ix2 r k) * x2 (ix2 k c) := by
  rw [← pay2_at]
  pointwise [k0_pay4]
  try rfl

/-- The product scaled by its heads' factors, then by the gains. -/
theorem pay3_at (h4 : ∀ (c : Fin 1024) (l : Fin 128), x4 (ix2 c l) = bsel c l) (h5 : ∀ (l : Fin 128) (c : Fin 1024), x5 (ix2 l c) = bexp l c) :
    k0_pay3 (F := Ideal) xn x2 x4 x4 x5 x5 x3 (ix2 r c)
      = k0_pay2 (F := Ideal) xn x2 (ix2 r c) * spread (fun c => k0_pay2 (F := Ideal) xn x2 (ix2 r c)) c * x3 (ix3 0 0 c) := by
  unfold spread laneScale
  simp only [← h4, ← h5]
  pointwise [k0_pay3]
  try rfl

end Cert.Kernel2Ideal.Val

end
-- ==== Proof.QkvRef.lean ====
module

public import proofs.«01_k».proof.Proof.QkvSpec
public import proofs.«01_k».proof.Proof.Gen.Reference2Ideal.Run

/-! The reference's queries, keys and values, read at an index. -/

@[expose] public section

set_option maxRecDepth 16384

noncomputable section

namespace Cert.Reference2Ideal.Val

open Idealize.ShloMosaic Idealize.ShloMosaic.TcCoe Cert.Reference2Ideal Cert.Reference2Ideal.Gen Cert.Qkv
open Cert.Mixer (normRow)

variable (a0 : FVec Ideal S8x4096x1024 .f32) (a1 : FVec Ideal S1024 .f32) (a2 : FVec Ideal S1024x3072 .f32)
  (a3 a4 hg : FVec Ideal S64 .f32)

/-- The normalised rows times the weight. -/
def prod : FVec Ideal S8x4096x3072 .f32 :=
  Host.dotGeneral dot_S8x4096x1024_S1024x3072_S8x4096x3072_2_0_01_1_n_n none (mulf (mulf a0 (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf a0 a0) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 a1))) a2

/-- Its first, second and last third, by heads. -/
def heads0 : FVec Ideal S8x4096x16x64 .f32 := shapeCast S8x4096x16x64 (extractStridedSlice S8x4096x1024 ![0, 0, 0] (prod a0 a1 a2) slices_S8x4096x3072_S8x4096x1024_0_0_0) shapeCasts_S8x4096x1024_S8x4096x16x64
def heads1 : FVec Ideal S8x4096x16x64 .f32 := shapeCast S8x4096x16x64 (extractStridedSlice S8x4096x1024 ![0, 0, 1024] (prod a0 a1 a2) slices_S8x4096x3072_S8x4096x1024_0_0_1024) shapeCasts_S8x4096x1024_S8x4096x16x64
def heads2 : FVec Ideal S8x4096x16x64 .f32 := shapeCast S8x4096x16x64 (extractStridedSlice S8x4096x1024 ![0, 0, 2048] (prod a0 a1 a2) slices_S8x4096x3072_S8x4096x1024_0_0_2048) shapeCasts_S8x4096x1024_S8x4096x16x64

/-- The norm over each head. -/
def headNorm (v : FVec Ideal S8x4096x16x64 .f32) (hg : FVec Ideal S64 .f32) : FVec Ideal S8x4096x16x64 .f32 :=
  mulf (mulf v (broadcastInDim S8x4096x16x64 ![0, 1, 2, 3] bcast_S8x4096x16x1_S8x4096x16x64_0_1_2_3 (Host.rsqrt (addf (Host.divf (broadcastInDim S8x4096x16x1 ![0, 1, 2] bcast_S8x4096x16_S8x4096x16x1_0_1_2 (Host.reduceAdd (mulf v v) (constant S_ .f32 0x00000000#32) reducesTo_S8x4096x16x64_S8x4096x16_d3 h_S_)) (broadcastInDim S8x4096x16x1 ![] bcast_S_S8x4096x16x1 (constant S_ .f32 0x42800000#32))) (broadcastInDim S8x4096x16x1 ![] bcast_S_S8x4096x16x1 (constant S_ .f32 0x358637BD#32)))))) (broadcastInDim S8x4096x16x64 ![0, 1, 2, 3] bcast_S1x1x1x64_S8x4096x16x64_0_1_2_3 (broadcastInDim S1x1x1x64 ![3] bcast_S64_S1x1x1x64_3 hg))

/-- The result's three parts. -/
def part0 : FVec Ideal S32768x1024 .f32 := shapeCast S32768x1024 (mulf (headNorm (heads0 a0 a1 a2) a3) (broadcastInDim S8x4096x16x64 ![] bcast_S_S8x4096x16x64 (constant S_ .f32 0x3E000000#32))) shapeCasts_S8x4096x16x64_S32768x1024
def part1 : FVec Ideal S32768x1024 .f32 := shapeCast S32768x1024 (headNorm (heads1 a0 a1 a2) a4) shapeCasts_S8x4096x16x64_S32768x1024
def part2 : FVec Ideal S32768x1024 .f32 := shapeCast S32768x1024 (heads2 a0 a1 a2) shapeCasts_S8x4096x16x64_S32768x1024

/-- The result. -/
def whole (u0 u1 u2 : FVec Ideal S32768x1024 .f32) : FVec Ideal S32768x3072 .bf16 :=
  truncf .bf16 (concatenate S32768x3072 1 [⟨S32768x1024, u0⟩, ⟨S32768x1024, u1⟩, ⟨S32768x1024, u2⟩] concatenates_S32768x1024_S32768x1024_S32768x1024_S32768x3072_d1) bitsLt_bf16_f32

theorem res_eq (m : (ℓ : Loc nD τ sig) → Buf (Elt Ideal) ℓ) (c : Dev nD) :
    Cert.Reference2Ideal.Value.res_main_v52 m c = whole
      (part0 (m ((c.tc : Thread nD τ).loc main_arg0)) (m ((c.tc : Thread nD τ).loc main_arg1)) (m ((c.tc : Thread nD τ).loc main_arg2)) (m ((c.tc : Thread nD τ).loc main_arg3)))
      (part1 (m ((c.tc : Thread nD τ).loc main_arg0)) (m ((c.tc : Thread nD τ).loc main_arg1)) (m ((c.tc : Thread nD τ).loc main_arg2)) (m ((c.tc : Thread nD τ).loc main_arg4)))
      (part2 (m ((c.tc : Thread nD τ).loc main_arg0)) (m ((c.tc : Thread nD τ).loc main_arg1)) (m ((c.tc : Thread nD τ).loc main_arg2))) := rfl

/-- A row of the input, of the norm's gain, of the weight. -/
def xrow (r : Fin 32768) (k : Fin 1024) : EReal := a0 (ix3 ⟨r.val / 4096, by omega⟩ ⟨r.val % 4096, by omega⟩ k)
def gain (k : Fin 1024) : EReal := a1 (ix1 k)
def weight (k : Fin 1024) (c : Fin 3072) : EReal := a2 (ix2 k c)
def hgain (j : Fin 64) : EReal := hg (ix1 j)

variable (r : Fin 32768) (c : Fin 1024)

theorem prod_at (b : Fin 8) (s : Fin 4096) (c : Fin 3072) : prod a0 a1 a2 (ix3 b s c)
    = ∑ k, normRow (fun k => a0 (ix3 b s k)) (gain a1) k * a2 (ix2 k c) := by
  unfold normRow gain
  pointwise [prod]
  try rfl

theorem prod_row (c : Fin 3072) : prod a0 a1 a2 (ix3 ⟨r.val / 4096, by omega⟩ ⟨r.val % 4096, by omega⟩ c)
    = ∑ k, normRow (xrow a0 r) (gain a1) k * weight a2 k c := prod_at a0 a1 a2 _ _ c

theorem heads0_at (b : Fin 8) (s : Fin 4096) (h : Fin 16) (j : Fin 64) : heads0 a0 a1 a2 (ix4 b s h j) = prod a0 a1 a2 (ix3 b s (tcol 0 (hcol h j))) := by
  unfold tcol hcol
  pointwise [heads0]
  try rfl

theorem heads1_at (b : Fin 8) (s : Fin 4096) (h : Fin 16) (j : Fin 64) : heads1 a0 a1 a2 (ix4 b s h j) = prod a0 a1 a2 (ix3 b s (tcol 1 (hcol h j))) := by
  unfold tcol hcol
  pointwise [heads1]
  try rfl

theorem heads2_at (b : Fin 8) (s : Fin 4096) (h : Fin 16) (j : Fin 64) : heads2 a0 a1 a2 (ix4 b s h j) = prod a0 a1 a2 (ix3 b s (tcol 2 (hcol h j))) := by
  unfold tcol hcol
  pointwise [heads2]
  try rfl

theorem headNorm_at (v : FVec Ideal S8x4096x16x64 .f32) (b : Fin 8) (s : Fin 4096) (h : Fin 16) (j : Fin 64) : headNorm v hg (ix4 b s h j)
    = v (ix4 b s h j) * Ideal.rsqrt (Ideal.div (∑ j, v (ix4 b s h j) * v (ix4 b s h j)) (Ideal.ofBits .f32 0x42800000#32) + Ideal.ofBits .f32 0x358637BD#32) * hgain hg j := by
  unfold hgain
  pointwise [headNorm]
  try rw [zero_add]

/-- The head's entries in the row's own terms. -/
theorem hcol_hd : hcol (hd c) (pl c) = c := Fin.ext (by show c.val / 64 * 64 + c.val % 64 = c.val; omega)

theorem part0_at : part0 a0 a1 a2 a3 (ix2 r c) = outAt (xrow a0 r) (gain a1) (weight a2) (hgain a3) (hgain a4) 0 c := by
  have e : part0 a0 a1 a2 a3 (ix2 r c) = headNorm (heads0 a0 a1 a2) a3 (ix4 ⟨r.val / 4096, by omega⟩ ⟨r.val % 4096, by omega⟩ (hd c) (pl c))
      * Ideal.ofBits .f32 0x3E000000#32 := by
    unfold hd pl
    pointwise [part0]
    try rfl
  rw [e, headNorm_at]
  simp only [heads0_at, prod_row]
  rw [outAt_zero, hcol_hd]
  rfl

theorem part1_at : part1 a0 a1 a2 a4 (ix2 r c) = outAt (xrow a0 r) (gain a1) (weight a2) (hgain a3) (hgain a4) 1 c := by
  have e : part1 a0 a1 a2 a4 (ix2 r c) = headNorm (heads1 a0 a1 a2) a4 (ix4 ⟨r.val / 4096, by omega⟩ ⟨r.val % 4096, by omega⟩ (hd c) (pl c)) := by
    unfold hd pl
    pointwise [part1]
    try rfl
  rw [e, headNorm_at]
  simp only [heads1_at, prod_row]
  rw [outAt_one, hcol_hd]
  rfl

theorem part2_at : part2 a0 a1 a2 (ix2 r c) = outAt (xrow a0 r) (gain a1) (weight a2) (hgain a3) (hgain a4) 2 c := by
  have e : part2 a0 a1 a2 (ix2 r c) = heads2 a0 a1 a2 (ix4 ⟨r.val / 4096, by omega⟩ ⟨r.val % 4096, by omega⟩ (hd c) (pl c)) := by
    unfold hd pl
    pointwise [part2]
    try rfl
  rw [e]
  simp only [heads2_at, prod_row]
  rw [outAt_two, hcol_hd]
  rfl

/-- The result at an index: its part's entry. -/
theorem whole_at (u0 u1 u2 : FVec Ideal S32768x1024 .f32) (t : Fin 3) : whole u0 u1 u2 (ix2 r (tcol t c))
    = if t.val = 0 then u0 (ix2 r c) else if t.val = 1 then u1 (ix2 r c) else u2 (ix2 r c) := by
  unfold tcol
  fin_cases t
  · pointwise [whole]
    try rfl
  · pointwise [whole]
    try rfl
  · pointwise [whole]
    rw [dif_neg (by omega), dif_neg (by omega)]
    exact congrArg u2 (congrArg (ix2 r) (Fin.ext (by show 2048 + c.val - 1024 - 1024 = c.val; omega)))

/-- The reference's result over its arguments. -/
def result : FVec Ideal S32768x3072 .bf16 := fun i =>
  outAt (xrow a0 (i 0)) (gain a1) (weight a2) (hgain a3) (hgain a4) ⟨(i 1).val / 1024, by have h : (i 1).val < 3072 := (i 1).isLt; omega⟩
    ⟨(i 1).val % 1024, by omega⟩

theorem result_at (t : Fin 3) : result a0 a1 a2 a3 a4 (ix2 r (tcol t c)) = outAt (xrow a0 r) (gain a1) (weight a2) (hgain a3) (hgain a4) t c := by
  have e1 : (⟨(tcol t c).val / 1024, by omega⟩ : Fin 3) = t := Fin.ext (by show (t.val * 1024 + c.val) / 1024 = t.val; omega)
  have e2 : (⟨(tcol t c).val % 1024, by omega⟩ : Fin 1024) = c := Fin.ext (by show (t.val * 1024 + c.val) % 1024 = c.val; omega)
  show outAt (xrow a0 r) (gain a1) (weight a2) (hgain a3) (hgain a4) (⟨(tcol t c).val / 1024, _⟩ : Fin 3) (⟨(tcol t c).val % 1024, _⟩ : Fin 1024) = _
  rw [e1, e2]

/-- An index of the result as a row, a part and a column. -/
theorem eq_tcol (c : Fin 3072) : ∃ (t : Fin 3) (k : Fin 1024), c = tcol t k :=
  ⟨⟨c.val / 1024, by omega⟩, ⟨c.val % 1024, by omega⟩, Fin.ext (by show c.val = c.val / 1024 * 1024 + c.val % 1024; omega)⟩

theorem whole_eq : whole (part0 a0 a1 a2 a3) (part1 a0 a1 a2 a4) (part2 a0 a1 a2) = result a0 a1 a2 a3 a4 := by
  funext i
  obtain ⟨r, q, rfl⟩ : ∃ (r : Fin 32768) (q : Fin 3072), i = ix2 r q := ⟨i 0, i 1, eq_ix2 i⟩
  obtain ⟨t, c, rfl⟩ := eq_tcol q
  rw [whole_at, result_at]
  fin_cases t
  · exact (if_pos rfl).trans (part0_at a0 a1 a2 a3 a4 r c)
  · exact (if_neg (by decide)).trans ((if_pos rfl).trans (part1_at a0 a1 a2 a3 a4 r c))
  · exact (if_neg (by decide)).trans ((if_neg (by decide)).trans (part2_at a0 a1 a2 a3 a4 r c))

end Cert.Reference2Ideal.Val

end
-- ==== Proof.QkvGains.lean ====
module

public import proofs.«01_k».proof.Proof.QkvKer
public import proofs.«01_k».proof.Proof.QkvRef
public import Idealize.ShloMosaic.Lib.Claim
public import Idealize.ShloMosaic.Lib.WordCmp
public import Idealize.ShloMosaic.Lib.Pipeline.ValueKit

/-! The gains the host lays out before the projection kernel: a row per part, each head's gains repeated. -/

@[expose] public section

set_option maxRecDepth 16384

noncomputable section

namespace Cert.Kernel2Ideal.Val

open Idealize.ShloMosaic Idealize.ShloMosaic.TcCoe Cert.Kernel2Ideal Cert.Kernel2Ideal.Gen Cert.Qkv
open Cert.Mixer (normRow)
open Idealize.ShloMosaic.Pipeline (Dat)

variable (m : (ℓ : Loc nD τ sig) → Buf (Elt Ideal) ℓ) (c : Dev nD)

/-- The gain of a column of a part. -/
def gainOf (qg kg : Fin 64 → EReal) (q : Fin 3) (j : Fin 1024) : EReal :=
  if q.val = 0 then qg (pl j) * Ideal.ofBits .f32 0x3E000000#32 else if q.val = 1 then kg (pl j) else Ideal.ofBits .f32 0x3F800000#32

/-- The array of gains. -/
def gains (a3 a4 : FVec Ideal S64 .f32) : FVec Ideal S3x1x1024 .f32 :=
  shapeCast S3x1x1024 (concatenate S3x1024 0
    [⟨S1x1024, broadcastInDim S1x1024 ![1] bcast_S1024_S1x1024_1 (mulf (shapeCast S1024 (broadcastInDim S16x64 ![0, 1] bcast_S1x64_S16x64_0_1 (shapeCast S1x64 a3 shapeCasts_S64_S1x64)) shapeCasts_S16x64_S1024) (broadcastInDim S1024 ![] bcast_S_S1024 (constant S_ .f32 0x3E000000#32)))⟩,
     ⟨S1x1024, broadcastInDim S1x1024 ![1] bcast_S1024_S1x1024_1 (shapeCast S1024 (broadcastInDim S16x64 ![0, 1] bcast_S1x64_S16x64_0_1 (shapeCast S1x64 a4 shapeCasts_S64_S1x64)) shapeCasts_S16x64_S1024)⟩,
     ⟨S1x1024, broadcastInDim S1x1024 ![1] bcast_S1024_S1x1024_1 (broadcastInDim S1024 ![] bcast_S_S1024 (constant S_ .f32 0x3F800000#32))⟩]
    concatenates_S1x1024_S1x1024_S1x1024_S3x1024_d0) shapeCasts_S3x1024_S3x1x1024

set_option maxHeartbeats 1600000 in
theorem gains_eq : V m c main_v14 = gains (m ((c : Thread nD τ).loc main_arg3)) (m ((c : Thread nD τ).loc main_arg4)) := by
  unfold V gains
  after_results_simp <;> (try dsimp only [Matrix.cons_val]) <;> (try after_results_simp) <;> rfl

set_option maxHeartbeats 1000000 in
theorem gains_at (a3 a4 : FVec Ideal S64 .f32) (q : Fin 3) (j : Fin 1024) : gains a3 a4 (ix3 q 0 j)
    = gainOf (Cert.Reference2Ideal.Val.hgain a3) (Cert.Reference2Ideal.Val.hgain a4) q j := by
  unfold gainOf Cert.Reference2Ideal.Val.hgain pl
  fin_cases q
  · pointwise [gains]
  · pointwise [gains]
  · pointwise [gains]

end Cert.Kernel2Ideal.Val

end
-- ==== Proof.QkvBlocks.lean ====
module

public import proofs.«01_k».proof.Proof.QkvKer
public import proofs.«01_k».proof.Proof.QkvGains
public import Idealize.ShloMosaic.Lib.Claim
public import Idealize.ShloMosaic.Lib.WordCmp
public import Idealize.ShloMosaic.Lib.Pipeline.ValueKit

/-! The blocks staged at a grid point of the projection kernel, read at an index: the arguments' entries, the gains the host lays
out beforehand and the two matrices it builds by comparing numbers. -/

@[expose] public section

set_option maxRecDepth 16384

noncomputable section

namespace Cert.Kernel2Ideal.Val

open Idealize.ShloMosaic Idealize.ShloMosaic.TcCoe Cert.Kernel2Ideal Cert.Kernel2Ideal.Gen Cert.Qkv
open Cert.Mixer (normRow)
open Idealize.ShloMosaic.Pipeline (Dat)

variable (m : (ℓ : Loc nD τ sig) → Buf (Elt Ideal) ℓ) (c : Dev nD)

/-- Which block each window stages at a point. -/
theorem idx : ∀ t : Fin cfg0.N, win0_0.index t = ![t.val / 3, 0] ∧ win0_1.index t = ![0, 0]
    ∧ win0_2.index t = ![0, t.val % 3] ∧ win0_3.index t = ![t.val % 3, 0, 0] ∧ win0_4.index t = ![0, 0] ∧ win0_5.index t = ![0, 0]
    ∧ win0_6.index t = ![t.val / 3, t.val % 3] :=
  (by decide +kernel : ∀ t : Fin grid0.N, _)

/-- The rows and the part of the projection a point works on. -/
def rowOf (t : Fin cfg0.N) (r : Fin 512) : Fin 32768 := ⟨t.val / 3 * 512 + r.val, by have := Nat.lt_of_lt_of_eq t.isLt N_0; omega⟩
def partOf (t : Fin cfg0.N) : Fin 3 := ⟨t.val % 3, by omega⟩

theorem blk0 (t : Fin cfg0.N) (r : Fin 512) (k : Fin 1024) :
    iblk m c 0 t (ix2 r k) = Cert.Reference2Ideal.Val.xrow (m ((c : Thread nD τ).loc main_arg0)) (rowOf t r) k := by
  unfold Cert.Reference2Ideal.Val.xrow rowOf
  blk_simp [iblk]
  entry_read
  pointwise []
  blk_ext [idx t]

theorem blk1 (t : Fin cfg0.N) (k : Fin 1024) : iblk m c 1 t (ix2 0 k) = m ((c : Thread nD τ).loc main_arg1) (ix1 k) := by
  blk_point [iblk, V, idx t]

theorem blk2 (t : Fin cfg0.N) (k : Fin 1024) (j : Fin 1024) :
    iblk m c 2 t (ix2 k j) = m ((c : Thread nD τ).loc main_arg2) (ix2 k (tcol (partOf t) j)) := by
  unfold tcol partOf
  blk_ext [iblk, V, idx t]

theorem blk3 (t : Fin cfg0.N) (j : Fin 1024) : iblk m c 3 t (ix3 0 0 j)
    = gainOf (Cert.Reference2Ideal.Val.hgain (m ((c : Thread nD τ).loc main_arg3))) (Cert.Reference2Ideal.Val.hgain (m ((c : Thread nD τ).loc main_arg4))) (partOf t) j := by
  have hi : (win0_3.blk t).view.emb (ix3 0 0 j) = ix3 (partOf t) 0 j := by
    unfold partOf
    blk_ext [idx t]
  rw [← gains_at, ← gains_eq]
  exact congrArg (V m c main_v14) hi

/-- A column number divided by the head's width, in words. -/
theorem head_word : ∀ k : Fin 1024, IntOp.divsi .host (BitVec.ofNat 32 k.val) 64#32 = BitVec.ofNat 32 (k.val / 64) := by decide +kernel

/-- A truth value as a number. -/
theorem uitofp_bit (b : Bool) : FloatOps.uitofp (F := Ideal) .f32 (BitVec.ofBool b) = if b then (1 : EReal) else 0 := by
  cases b
  · show (((BitVec.ofBool false).toNat : ℝ) : EReal) = 0
    simp
  · show (((BitVec.ofBool true).toNat : ℝ) : EReal) = 1
    simp

theorem blk4 (t : Fin cfg0.N) (k : Fin 1024) (l : Fin 128) : iblk m c 4 t (ix2 k l) = bsel k l := by
  have hi : ((View.whole main_v36).slice (win0_4.rect t)).emb (ix2 k l) = ix2 k l := by blk_ext [idx t]
  unfold bsel
  blk_simp [iblk]
  entry_read
  pointwise []
  rw [hi]
  show Ideal.div (FloatOps.uitofp (F := Ideal) .f32 (IntOp.cmpi .eq (IntOp.divsi .host (BitVec.ofNat 32 k.val) 64#32) (BitVec.ofNat 32 l.val))) _ = _
  rw [head_word, WordCmp.cmpi_eq_ofNat (by omega) (by omega), uitofp_bit]
  simp only [decide_eq_true_eq]

theorem blk5 (t : Fin cfg0.N) (l : Fin 128) (k : Fin 1024) : iblk m c 5 t (ix2 l k) = bexp l k := by
  have hi : ((View.whole main_v37).slice (win0_5.rect t)).emb (ix2 l k) = ix2 l k := by blk_ext [idx t]
  unfold bexp
  blk_simp [iblk]
  entry_read
  pointwise []
  rw [hi]
  show FloatOps.uitofp (F := Ideal) .f32 (IntOp.cmpi .eq (BitVec.ofNat 32 l.val) (IntOp.divsi .host (BitVec.ofNat 32 k.val) 64#32)) = _
  rw [head_word, WordCmp.cmpi_eq_ofNat (by omega) (by omega), uitofp_bit]
  simp only [decide_eq_true_eq]

end Cert.Kernel2Ideal.Val

end
-- ==== Proof.QkvValue.lean ====
module

public import proofs.«01_k».proof.Proof.QkvBlocks
public import Idealize.ShloMosaic.Lib.Pipeline.ReadBack

/-! The projection kernel's result array: what its row buffer holds after each grid point, what each point writes, and the whole
array after the run, in the projection's scalars, for a real gain and a real weight. -/

@[expose] public section

set_option maxRecDepth 16384

noncomputable section

namespace Cert.Kernel2Ideal.Val

open Idealize.ShloMosaic Idealize.ShloMosaic.TcCoe Cert.Kernel2Ideal Cert.Kernel2Ideal.Gen Cert.Qkv
open Cert.Mixer (normRow)
open Idealize.ShloMosaic.Pipeline (Dat)
open Cert.Reference2Ideal.Val (xrow gain weight hgain)

variable (m : (ℓ : Loc nD τ sig) → Buf (Elt Ideal) ℓ) (c : Dev nD)

/-- The rows, the norm's gain and a part's columns of the weight, as the kernel's memory holds them. -/
def X (t : Fin cfg0.N) (r : Fin 512) : Fin 1024 → EReal := xrow (m ((c : Thread nD τ).loc main_arg0)) (rowOf t r)
def G : Fin 1024 → EReal := gain (m ((c : Thread nD τ).loc main_arg1))
def W (q : Fin 3) (k : Fin 1024) (j : Fin 1024) : EReal := weight (m ((c : Thread nD τ).loc main_arg2)) k (tcol q j)

theorem rows_at (t : Fin cfg0.N) (r : Fin 512) (k : Fin 1024) :
    k0_pay1 (F := Ideal) (iblk m c 0 t) (iblk m c 1 t) (ix2 r k) = normRow (X m c t r) (G m c) k := by
  rw [pay1_at]
  exact congrArg₂ (fun a b => normRow a b k) (funext fun k => blk0 m c t r k) (funext fun k => blk1 m c t k)

/-- After a point the row buffer holds the normalised rows of its row block. -/
theorem carry_at : ∀ (n : ℕ) (hn : n < cfg0.N) (r : Fin 512) (k : Fin 1024),
    (outsAt0 m c n hn).2 (ix2 r k) = normRow (X m c ⟨n, hn⟩ r) (G m c) k := by
  intro n
  induction n with
  | zero =>
    intro hn r k
    rw [outsAt0_A m c ⟨0, hn⟩ rfl (by show 0 % 3 ≤ 1; omega) (by show ¬0 % 3 = 2; omega)]
    frame_out
    exact rows_at m c ⟨0, hn⟩ r k
  | succ n ih =>
    intro hn r k
    by_cases h0 : (n + 1) % 3 = 0
    · rw [outsAt0_A m c ⟨n + 1, hn⟩ h0 (by show (n + 1) % 3 ≤ 1; omega) (by show ¬(n + 1) % 3 = 2; omega)]
      frame_out
      exact rows_at m c ⟨n + 1, hn⟩ r k
    · have hX : X m c ⟨n + 1, hn⟩ r = X m c ⟨n, Nat.lt_of_succ_lt hn⟩ r := by
        unfold X
        refine congrArg (xrow _) (Fin.ext ?_)
        show (n + 1) / 3 * 512 + r.val = n / 3 * 512 + r.val
        omega
      rw [hX, ← ih (Nat.lt_of_succ_lt hn)]
      by_cases h1 : (n + 1) % 3 ≤ 1
      · rw [outsAt0_B m c ⟨n + 1, hn⟩ h0 h1 (by show ¬(n + 1) % 3 = 2; omega)]
        rfl
      · rw [outsAt0_C m c ⟨n + 1, hn⟩ h0 h1 (by show (n + 1) % 3 = 2; omega)]
        rfl

/-- The product at a point, its row buffer holding the normalised rows. -/
theorem prod_at (t : Fin cfg0.N) (xn : FVec Ideal S512x1024 .bf16) (hx : ∀ r k, xn (ix2 r k) = normRow (X m c t r) (G m c) k)
    (r : Fin 512) (j : Fin 1024) : k0_pay2 (F := Ideal) xn (iblk m c 2 t) (ix2 r j) = third (X m c t r) (G m c) (W m c (partOf t)) j := by
  rw [pay2_at]
  unfold third
  refine Finset.sum_congr rfl fun k _ => ?_
  rw [hx]
  exact congrArg (normRow (X m c t r) (G m c) k * ·) (blk2 m c t k j)

/-- What a point of the queries or of the keys writes. -/
theorem headed_at (hG : ∀ k, ∃ r : ℝ, G m c k = (r : EReal)) (hW : ∀ q k j, ∃ r : ℝ, W m c q k j = (r : EReal))
    (t : Fin cfg0.N) (xn : FVec Ideal S512x1024 .bf16) (hx : ∀ r k, xn (ix2 r k) = normRow (X m c t r) (G m c) k)
    (r : Fin 512) (j : Fin 1024) :
    k0_pay3 (F := Ideal) xn (iblk m c 2 t) (iblk m c 4 t) (iblk m c 4 t) (iblk m c 5 t) (iblk m c 5 t) (iblk m c 3 t) (ix2 r j)
      = third (X m c t r) (G m c) (W m c (partOf t)) j * headScale (third (X m c t r) (G m c) (W m c (partOf t))) (hd j)
        * gainOf (hgain (m ((c : Thread nD τ).loc main_arg3))) (hgain (m ((c : Thread nD τ).loc main_arg4))) (partOf t) j := by
  rw [pay3_at _ _ _ _ _ _ _ (blk4 m c t) (blk5 m c t)]
  have e : (fun j => k0_pay2 (F := Ideal) xn (iblk m c 2 t) (ix2 r j)) = third (X m c t r) (G m c) (W m c (partOf t)) :=
    funext fun j => prod_at m c t xn hx r j
  rw [e, prod_at m c t xn hx, spread_eq _ (third_real _ _ _ hG (hW _))]
  exact congrArg (_ * ·) (blk3 m c t j)

/-- The block a point writes. -/
theorem out_at (hG : ∀ k, ∃ r : ℝ, G m c k = (r : EReal)) (hW : ∀ q k j, ∃ r : ℝ, W m c q k j = (r : EReal))
    (t : Fin cfg0.N) (r : Fin 512) (j : Fin 1024) : (outsAt0 m c t.val t.isLt).1 (ix2 r j)
      = outAt (X m c t r) (G m c) (weight (m ((c : Thread nD τ).loc main_arg2))) (hgain (m ((c : Thread nD τ).loc main_arg3)))
          (hgain (m ((c : Thread nD τ).loc main_arg4))) (partOf t) j := by
  by_cases h0 : t.val % 3 = 0
  · have hq : partOf t = 0 := Fin.ext h0
    rw [outsAt0_A m c t h0 (by omega) (by omega)]
    frame_out
    rw [hq, outAt_zero]
    refine (headed_at m c hG hW t _ (rows_at m c t) r j).trans ?_
    rw [hq]
    exact (mul_assoc _ _ _).symm
  · have hx : ∀ r k, (outsAt0 m c (t.val - 1) (Nat.lt_of_le_of_lt (Nat.sub_le _ _) t.isLt)).2 (ix2 r k) = normRow (X m c t r) (G m c) k := fun r k => by
      rw [carry_at]
      refine congrArg (fun x => normRow x (G m c) k) ?_
      unfold X
      refine congrArg (xrow _) (Fin.ext ?_)
      show (t.val - 1) / 3 * 512 + r.val = t.val / 3 * 512 + r.val
      omega
    by_cases h1 : t.val % 3 ≤ 1
    · have hq : partOf t = 1 := Fin.ext (by show t.val % 3 = 1; omega)
      rw [outsAt0_B m c t h0 h1 (by omega)]
      frame_out
      rw [Idealize.ShloMosaic.read_unread_whole, hq, outAt_one]
      refine (headed_at m c hG hW t _ hx r j).trans ?_
      rw [hq]
      rfl
    · have hq : partOf t = 2 := Fin.ext (by show t.val % 3 = 2; omega)
      rw [outsAt0_C m c t h0 h1 (by omega)]
      frame_out
      rw [Idealize.ShloMosaic.read_unread_whole, hq, outAt_two, pay4_at, ← pay2_at]
      refine (prod_at m c t _ hx r j).trans ?_
      rw [hq]
      rfl

/-- The result array after the run. -/
theorem final (hG : ∀ k, ∃ r : ℝ, G m c k = (r : EReal)) (hW : ∀ q k j, ∃ r : ℝ, W m c q k j = (r : EReal)) :
    (dats m 0 c).arrAt 6 (cfgs 0).N = Cert.Reference2Ideal.Val.result (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  obtain ⟨r, j, rfl⟩ : ∃ (r : Fin 512) (j : Fin 1024), y = ix2 r j := ⟨y 0, y 1, eq_ix2 y⟩
  have hi : (win0_6.blk t).view.emb (ix2 r j) = ix2 (rowOf t r) (tcol (partOf t) j) := by
    unfold rowOf tcol partOf
    blk_ext [idx t]
  rw [hi]
  refine (out_at m c hG hW t r j).trans ?_
  exact (Cert.Reference2Ideal.Val.result_at _ _ _ _ _ (rowOf t r) j (partOf t)).symm

end Cert.Kernel2Ideal.Val

end
-- ==== Proof.ScoresBitsRun.lean ====
module

public import proofs.«01_k».proof.Proof.Gen.Kernel3.Frame
public import Idealize.ShloMosaic.Lib.Claim
public import Idealize.ShloMosaic.Lib.VecWindow
public import Idealize.ShloMosaic.Lib.Pipeline.ReadBack
public import Idealize.ShloMosaic.Lib.Pointwise.Index

/-! One run of the score kernel's body, the words as they are printed: the pieces its stores leave in each of its three output blocks. -/

@[expose] public section

set_option maxRecDepth 16384

noncomputable section

namespace Cert.Kernel3.Body

open Cert.Kernel3 Cert.Kernel3.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UR sig nD τ) ℕ

set_option maxHeartbeats 4000000 in
/-- The pieces the body's stores leave in its three output blocks, the last first, with the proof that the body runs from its
    four input blocks and leaves them as they were. -/
noncomputable def bodyRun (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S2x128x128 .bf16) (harg4 : arg4.IsWhole) (arg5 : Memref sig .tc .vmem S4096x128 .i32) (harg5 : arg5.IsWhole) (arg6 : Memref sig .tc .vmem S16x128x512 .f32) (harg6 : arg6.IsWhole) (arg7 : Memref sig .tc .vmem S512x512 .i32) (harg7 : arg7.IsWhole)
    (x0 : Vec F S512x1024 .f32) (x1 : Vec F S1x1024 .f32) (x2 : Vec F S1024x2048 .bf16) (x3 : Vec F S2x128x128 .bf16) :
    Σ' (L4 : List (View.Piece (Elt F) S4096x128 .i32)) (L5 : List (View.Piece (Elt F) S16x128x512 .f32)), { L6 : List (View.Piece (Elt F) S512x512 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)) -∗ K ⟨⟩))
          ⊢ wp frame (wpE (defs₀ (F := F)) Variants.none c none) E (cc0_peer_scores i arg1 harg1 arg2 harg2 arg3 harg3 arg4 harg4 arg5 harg5 arg6 harg6 arg7 harg7) K } := by
  refine ⟨?_, ?_, ?_, fun E K => ?run⟩
  case run =>
    unfold cc0_peer_scores k0_part1 k0_part2 k0_part3 k0_part4 k0_part5
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

end Cert.Kernel3.Body

end
-- ==== Proof.ScoresBits.lean ====
module

public import proofs.«01_k».proof.Proof.ScoresBitsRun

/-! The pipeline of the score kernel, the words as they are printed: what each of its 64 points leaves in the output blocks, the body's obligation at every point,
and the run of @main. -/

@[expose] public section

set_option maxRecDepth 16384

noncomputable section

namespace Cert.Kernel3.Body

open Cert.Kernel3 Cert.Kernel3.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The pieces cover their blocks -/

theorem mem_rows0 (y : S4096x128.Idx) (h : (y 0).val % 8 = 0) : y ∈ (⟨(⟨![0, 0], S512x128.size, ![8, 1], inb_S4096x128_S512x128_0_0_s_8_1⟩ : LoadRect S4096x128), spos_8_1⟩ : Rect S4096x128).set :=
  (⟨(⟨![0, 0], S512x128.size, ![8, 1], inb_S4096x128_S512x128_0_0_s_8_1⟩ : LoadRect S4096x128), spos_8_1⟩ : Rect S4096x128).mem_set.mpr fun a => by
    fin_cases a
    · exact ⟨(y 0).val / 8, by show (y 0).val / 8 < 512; have : (y 0).val < 4096 := (y 0).isLt; omega, by show (y 0).val = 0 + 8 * ((y 0).val / 8); omega⟩
    · exact ⟨(y 1).val, (y 1).isLt, by show (y 1).val = 0 + 1 * (y 1).val; omega⟩

theorem mem_rows1 (y : S4096x128.Idx) (h : (y 0).val % 8 = 1) : y ∈ (⟨(⟨![1, 0], S512x128.size, ![8, 1], inb_S4096x128_S512x128_1_0_s_8_1⟩ : LoadRect S4096x128), spos_8_1⟩ : Rect S4096x128).set :=
  (⟨(⟨![1, 0], S512x128.size, ![8, 1], inb_S4096x128_S512x128_1_0_s_8_1⟩ : LoadRect S4096x128), spos_8_1⟩ : Rect S4096x128).mem_set.mpr fun a => by
    fin_cases a
    · exact ⟨(y 0).val / 8, by show (y 0).val / 8 < 512; have : (y 0).val < 4096 := (y 0).isLt; omega, by show (y 0).val = 1 + 8 * ((y 0).val / 8); omega⟩
    · exact ⟨(y 1).val, (y 1).isLt, by show (y 1).val = 0 + 1 * (y 1).val; omega⟩

theorem mem_rows2 (y : S4096x128.Idx) (h : (y 0).val % 8 = 2) : y ∈ (⟨(⟨![2, 0], S512x128.size, ![8, 1], inb_S4096x128_S512x128_2_0_s_8_1⟩ : LoadRect S4096x128), spos_8_1⟩ : Rect S4096x128).set :=
  (⟨(⟨![2, 0], S512x128.size, ![8, 1], inb_S4096x128_S512x128_2_0_s_8_1⟩ : LoadRect S4096x128), spos_8_1⟩ : Rect S4096x128).mem_set.mpr fun a => by
    fin_cases a
    · exact ⟨(y 0).val / 8, by show (y 0).val / 8 < 512; have : (y 0).val < 4096 := (y 0).isLt; omega, by show (y 0).val = 2 + 8 * ((y 0).val / 8); omega⟩
    · exact ⟨(y 1).val, (y 1).isLt, by show (y 1).val = 0 + 1 * (y 1).val; omega⟩

theorem mem_rows3 (y : S4096x128.Idx) (h : (y 0).val % 8 = 3) : y ∈ (⟨(⟨![3, 0], S512x128.size, ![8, 1], inb_S4096x128_S512x128_3_0_s_8_1⟩ : LoadRect S4096x128), spos_8_1⟩ : Rect S4096x128).set :=
  (⟨(⟨![3, 0], S512x128.size, ![8, 1], inb_S4096x128_S512x128_3_0_s_8_1⟩ : LoadRect S4096x128), spos_8_1⟩ : Rect S4096x128).mem_set.mpr fun a => by
    fin_cases a
    · exact ⟨(y 0).val / 8, by show (y 0).val / 8 < 512; have : (y 0).val < 4096 := (y 0).isLt; omega, by show (y 0).val = 3 + 8 * ((y 0).val / 8); omega⟩
    · exact ⟨(y 1).val, (y 1).isLt, by show (y 1).val = 0 + 1 * (y 1).val; omega⟩

theorem mem_rows4 (y : S4096x128.Idx) (h : (y 0).val % 8 = 4) : y ∈ (⟨(⟨![4, 0], S512x128.size, ![8, 1], inb_S4096x128_S512x128_4_0_s_8_1⟩ : LoadRect S4096x128), spos_8_1⟩ : Rect S4096x128).set :=
  (⟨(⟨![4, 0], S512x128.size, ![8, 1], inb_S4096x128_S512x128_4_0_s_8_1⟩ : LoadRect S4096x128), spos_8_1⟩ : Rect S4096x128).mem_set.mpr fun a => by
    fin_cases a
    · exact ⟨(y 0).val / 8, by show (y 0).val / 8 < 512; have : (y 0).val < 4096 := (y 0).isLt; omega, by show (y 0).val = 4 + 8 * ((y 0).val / 8); omega⟩
    · exact ⟨(y 1).val, (y 1).isLt, by show (y 1).val = 0 + 1 * (y 1).val; omega⟩

theorem mem_rows5 (y : S4096x128.Idx) (h : (y 0).val % 8 = 5) : y ∈ (⟨(⟨![5, 0], S512x128.size, ![8, 1], inb_S4096x128_S512x128_5_0_s_8_1⟩ : LoadRect S4096x128), spos_8_1⟩ : Rect S4096x128).set :=
  (⟨(⟨![5, 0], S512x128.size, ![8, 1], inb_S4096x128_S512x128_5_0_s_8_1⟩ : LoadRect S4096x128), spos_8_1⟩ : Rect S4096x128).mem_set.mpr fun a => by
    fin_cases a
    · exact ⟨(y 0).val / 8, by show (y 0).val / 8 < 512; have : (y 0).val < 4096 := (y 0).isLt; omega, by show (y 0).val = 5 + 8 * ((y 0).val / 8); omega⟩
    · exact ⟨(y 1).val, (y 1).isLt, by show (y 1).val = 0 + 1 * (y 1).val; omega⟩

theorem mem_rows6 (y : S4096x128.Idx) (h : (y 0).val % 8 = 6) : y ∈ (⟨(⟨![6, 0], S512x128.size, ![8, 1], inb_S4096x128_S512x128_6_0_s_8_1⟩ : LoadRect S4096x128), spos_8_1⟩ : Rect S4096x128).set :=
  (⟨(⟨![6, 0], S512x128.size, ![8, 1], inb_S4096x128_S512x128_6_0_s_8_1⟩ : LoadRect S4096x128), spos_8_1⟩ : Rect S4096x128).mem_set.mpr fun a => by
    fin_cases a
    · exact ⟨(y 0).val / 8, by show (y 0).val / 8 < 512; have : (y 0).val < 4096 := (y 0).isLt; omega, by show (y 0).val = 6 + 8 * ((y 0).val / 8); omega⟩
    · exact ⟨(y 1).val, (y 1).isLt, by show (y 1).val = 0 + 1 * (y 1).val; omega⟩

theorem mem_rows7 (y : S4096x128.Idx) (h : (y 0).val % 8 = 7) : y ∈ (⟨(⟨![7, 0], S512x128.size, ![8, 1], inb_S4096x128_S512x128_7_0_s_8_1⟩ : LoadRect S4096x128), spos_8_1⟩ : Rect S4096x128).set :=
  (⟨(⟨![7, 0], S512x128.size, ![8, 1], inb_S4096x128_S512x128_7_0_s_8_1⟩ : LoadRect S4096x128), spos_8_1⟩ : Rect S4096x128).mem_set.mpr fun a => by
    fin_cases a
    · exact ⟨(y 0).val / 8, by show (y 0).val / 8 < 512; have : (y 0).val < 4096 := (y 0).isLt; omega, by show (y 0).val = 7 + 8 * ((y 0).val / 8); omega⟩
    · exact ⟨(y 1).val, (y 1).isLt, by show (y 1).val = 0 + 1 * (y 1).val; omega⟩

abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x128x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x128 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x128x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .i32 := win0_6.stage (cfg0.slots t 6)
abbrev hs0_6 (t : Fin cfg0.N) : (ms0_6 t).IsWhole := hstage0_6 ((cfg0.slots t 6).cast nbuf0_6)

/-- The body's run at point `t`, on the blocks staged there. -/
def runAt (c : Dev nD) (t : Fin cfg0.N) :=
  bodyRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t)

/-- Every row of the word block is stored: row `r` by the store that starts at `r % 8`. -/
theorem cover4 (c : Dev nD) (t : Fin cfg0.N) (y : S4096x128.Idx) : ∃ p ∈ (runAt m c t).1, y ∈ p.1.set := by
  obtain h | h | h | h | h | h | h | h : (y 0).val % 8 = 0 ∨ (y 0).val % 8 = 1 ∨ (y 0).val % 8 = 2 ∨ (y 0).val % 8 = 3
      ∨ (y 0).val % 8 = 4 ∨ (y 0).val % 8 = 5 ∨ (y 0).val % 8 = 6 ∨ (y 0).val % 8 = 7 := by omega
  · exact ⟨_, List.Mem.tail _ (List.Mem.tail _ (List.Mem.tail _ (List.Mem.tail _ (List.Mem.tail _ (List.Mem.tail _ (List.Mem.tail _ (List.Mem.head _))))))), mem_rows0 y h⟩
  · exact ⟨_, List.Mem.tail _ (List.Mem.tail _ (List.Mem.tail _ (List.Mem.tail _ (List.Mem.tail _ (List.Mem.tail _ (List.Mem.head _)))))), mem_rows1 y h⟩
  · exact ⟨_, List.Mem.tail _ (List.Mem.tail _ (List.Mem.tail _ (List.Mem.tail _ (List.Mem.tail _ (List.Mem.head _))))), mem_rows2 y h⟩
  · exact ⟨_, List.Mem.tail _ (List.Mem.tail _ (List.Mem.tail _ (List.Mem.tail _ (List.Mem.head _)))), mem_rows3 y h⟩
  · exact ⟨_, List.Mem.tail _ (List.Mem.tail _ (List.Mem.tail _ (List.Mem.head _))), mem_rows4 y h⟩
  · exact ⟨_, List.Mem.tail _ (List.Mem.tail _ (List.Mem.head _)), mem_rows5 y h⟩
  · exact ⟨_, List.Mem.tail _ (List.Mem.head _), mem_rows6 y h⟩
  · exact ⟨_, List.Mem.head _, mem_rows7 y h⟩

/-- Every head's half of the score block is stored. -/
theorem cover5 (c : Dev nD) (t : Fin cfg0.N) (y : S16x128x512.Idx) : ∃ p ∈ (runAt m c t).2.1, y ∈ p.1.set :=
  View.cover_of_tiledL (runAt m c t).2.1 S1x128x512.size (by sl_kernel_rfl) y

/-- The block of the rows' words is stored whole. -/
theorem cover6 (c : Dev nD) (t : Fin cfg0.N) (y : S512x512.Idx) : ∃ p ∈ (runAt m c t).2.2.1, y ∈ p.1.set :=
  View.cover_of_tiledL (runAt m c t).2.2.1 S512x512.size (by sl_kernel_rfl) y

/-! ## The proof data -/

abbrev O4 : View sig .tc .vmem S4096x128 .i32 := (Memref.whole cc0_stg4_0 : Memref sig .tc .vmem S4096x128 .i32).view
abbrev O5 : View sig .tc .vmem S16x128x512 .f32 := (Memref.whole cc0_stg5_0 : Memref sig .tc .vmem S16x128x512 .f32).view
abbrev O6 : View sig .tc .vmem S512x512 .i32 := (Memref.whole cc0_stg6_0 : Memref sig .tc .vmem S512x512 .i32).view

/-- What point `t` leaves in each output block: its pieces read back. -/
def out4 (c : Dev nD) (t : Fin cfg0.N) : Vec F S4096x128 .i32 := O4.read (Elt F) (O4.writes (Elt F) O4.junk (runAt m c t).1)
def out5 (c : Dev nD) (t : Fin cfg0.N) : Vec F S16x128x512 .f32 := O5.read (Elt F) (O5.writes (Elt F) O5.junk (runAt m c t).2.1)
def out6 (c : Dev nD) (t : Fin cfg0.N) : Vec F S512x512 .i32 := O6.read (Elt F) (O6.writes (Elt F) O6.junk (runAt m c t).2.2.1)

/-- The proof data of the pipeline: each input's block in its buffer, each output's at what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 m c t
    | ⟨5, _⟩ => out5 m c t
    | ⟨6, _⟩ => out6 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out4 m c t := by dsimp only [dats]
theorem after0_5 (c : Dev nD) (t : Fin cfg0.N) : (dats m 0 c).after 5 t = out5 m c t := by dsimp only [dats]
theorem after0_6 (c : Dev nD) (t : Fin cfg0.N) : (dats m 0 c).after 6 t = out6 m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    show (dats m 0 c).Φ t.succ = (dats m 0 c).Φ t.castSucc from rfl,
    after0_0, after0_1, after0_2, after0_3, after0_4, after0_5, after0_6]
  unfold out4 out5 out6
  iintro ⟨Hg, Ho, ⟨%d0, H0⟩, ⟨%d1, H1⟩, ⟨%d2, H2⟩, ⟨%d3, H3⟩, ⟨%d4, H4⟩, ⟨%d5, H5⟩, ⟨%d6, H6⟩⟩
  iapply ((runAt m c t).2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, ⟨%e4, H4⟩, ⟨%e5, H5⟩, ⟨%e6, H6⟩⟩
  isplitl [Hg]; · iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover4 m c t)
  isplitl [H5]
  · unfold owns; iexists _; isplitr
    swap; · iexact H5
    ipureintro; exact View.read_writes_of_cover _ _ _ _ _ (cover5 m c t)
  unfold owns; iexists _; isplitr
  swap; · iexact H6
  ipureintro; exact View.read_writes_of_cover _ _ _ _ _ (cover6 m c t)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- @main runs, with every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun _ => Idealize.SL.BI.Entails.refl _) (hout := fun _ => Idealize.SL.BI.Entails.refl _)

/-- @main runs: every array of the pipeline ends at what the proof data say, every other buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame with the counters: the argument arrays end unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel3.Body

end
-- ==== Proof.ScoresRef.lean ====
module

public import proofs.«01_k».proof.Proof.QkvSpec
public import proofs.«01_k».proof.Proof.Gen.Reference3Ideal.Run

/-! The reference's scores, read at an index. -/

@[expose] public section

set_option maxRecDepth 16384

noncomputable section

namespace Cert.Scores

open Idealize.ShloMosaic
open Cert.Mixer (normRow)

/-- The column of the queries' weight that feeds channel `j` of head and half `h`. -/
def qcol (h : Fin 16) (j : Fin 128) : Fin 2048 := ⟨h.val * 128 + j.val, by omega⟩

/-- The half a pair of head and half is of. -/
def half (h : Fin 16) : Fin 2 := ⟨h.val % 2, by omega⟩

/-- The score of key `n` of head and half `h` at one row: the key times the row's query. -/
def scoreAt (x g : Fin 1024 → EReal) (w : Fin 1024 → Fin 2048 → EReal) (s : Fin 2 → Fin 128 → Fin 128 → EReal) (h : Fin 16) (n : Fin 128) : EReal :=
  ∑ j, s (half h) n j * ∑ k, normRow x g k * w k (qcol h j)

end Cert.Scores

namespace Cert.Reference3Ideal.Val

open Idealize.ShloMosaic Idealize.ShloMosaic.TcCoe Cert.Reference3Ideal Cert.Reference3Ideal.Gen Cert.Scores
open Cert.Mixer (normRow)

variable (a0 : FVec Ideal S8x4096x1024 .f32) (a1 : FVec Ideal S1024 .f32) (a2 : FVec Ideal S1024x2048 .f32) (a3 : FVec Ideal S2x128x128 .f32)

/-- The normalised rows times the queries' weight. -/
def prod : FVec Ideal S8x4096x2048 .f32 :=
  Host.dotGeneral dot_S8x4096x1024_S1024x2048_S8x4096x2048_2_0_01_1_n_n none (mulf (mulf a0 (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf a0 a0) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 a1))) a2

/-- The keys against the queries, by half, key, row and head. -/
def dots : FVec Ideal S2x128x32768x8 .f32 :=
  Host.dotGeneral dot_S2x128x128_S32768x8x2x128_S2x128x32768x8_2_3_1_01_0_2 none a3 (shapeCast _ (prod a0 a1 a2) shapeCasts_S8x4096x2048_S32768x8x2x128)

/-- The result. -/
def result : FVec Ideal S16x128x32768 .f32 :=
  shapeCast _ (transpose S8x2x128x32768 [1, 2, 3, 0] (transpose S32768x8x2x128 [2, 3, 0, 1] (dots a0 a1 a2 a3) transposes_S2x128x32768x8_S32768x8x2x128_2_3_0_1) transposes_S32768x8x2x128_S8x2x128x32768_1_2_3_0) shapeCasts_S8x2x128x32768_S16x128x32768

/-- A row of the input, of the norm's gain, of the weight, of the keys. -/
def xrow (r : Fin 32768) (k : Fin 1024) : EReal := a0 (ix3 ⟨r.val / 4096, by omega⟩ ⟨r.val % 4096, by omega⟩ k)
def gain (k : Fin 1024) : EReal := a1 (ix1 k)
def weight (k : Fin 1024) (c : Fin 2048) : EReal := a2 (ix2 k c)
def keys (p : Fin 2) (n j : Fin 128) : EReal := a3 (ix3 p n j)

theorem prod_at (b : Fin 8) (s : Fin 4096) (c : Fin 2048) : prod a0 a1 a2 (ix3 b s c)
    = ∑ k, normRow (fun k => a0 (ix3 b s k)) (gain a1) k * a2 (ix2 k c) := by
  unfold normRow gain
  pointwise [prod]
  try rfl

theorem prod_row (r : Fin 32768) (c : Fin 2048) : prod a0 a1 a2 (ix3 ⟨r.val / 4096, by omega⟩ ⟨r.val % 4096, by omega⟩ c)
    = ∑ k, normRow (xrow a0 r) (gain a1) k * weight a2 k c := prod_at a0 a1 a2 _ _ c

/-- A row's query, by head, half and channel. -/
theorem query_at (r : Fin 32768) (e : Fin 8) (p : Fin 2) (j : Fin 128) (h : Fin 16) (hh : h.val = e.val * 2 + p.val) :
    shapeCast S32768x8x2x128 (prod a0 a1 a2) shapeCasts_S8x4096x2048_S32768x8x2x128 (ix4 r e p j)
      = ∑ k, normRow (xrow a0 r) (gain a1) k * weight a2 k (qcol h j) := by
  rw [← prod_row]
  pointwise []
  congr 1
  funext a
  apply Fin.ext
  fin_cases a <;> simp [ix3, qcol, hh] <;> omega

theorem dots_at (p : Fin 2) (n : Fin 128) (r : Fin 32768) (e : Fin 8) : dots a0 a1 a2 a3 (ix4 p n r e)
    = ∑ j, a3 (ix3 p n j) * shapeCast S32768x8x2x128 (prod a0 a1 a2) shapeCasts_S8x4096x2048_S32768x8x2x128 (ix4 r e p j) := by
  unfold dots
  generalize shapeCast S32768x8x2x128 (prod a0 a1 a2) shapeCasts_S8x4096x2048_S32768x8x2x128 = q
  pointwise []
  try rfl

theorem result_dots (h : Fin 16) (n : Fin 128) (r : Fin 32768) : result a0 a1 a2 a3 (ix3 h n r)
    = dots a0 a1 a2 a3 (ix4 (half h) n r ⟨h.val / 2, by omega⟩) := by
  unfold result half
  generalize dots a0 a1 a2 a3 = d
  pointwise []
  try rfl

theorem result_at (h : Fin 16) (n : Fin 128) (r : Fin 32768) : result a0 a1 a2 a3 (ix3 h n r)
    = scoreAt (xrow a0 r) (gain a1) (weight a2) (keys a3) h n := by
  rw [result_dots, dots_at]
  unfold scoreAt keys
  refine Finset.sum_congr rfl fun j _ => ?_
  rw [query_at a0 a1 a2 r ⟨h.val / 2, by omega⟩ (half h) j h (by show h.val = h.val / 2 * 2 + h.val % 2; omega)]

end Cert.Reference3Ideal.Val

end
-- ==== Proof.ScoresRun.lean ====
module

public import proofs.«01_k».proof.Proof.Gen.Kernel3Ideal.Frame
public import Idealize.ShloMosaic.Lib.Claim
public import Idealize.ShloMosaic.Lib.VecWindow
public import Idealize.ShloMosaic.Lib.Pipeline.ReadBack
public import Idealize.ShloMosaic.Lib.Pointwise.Index

/-! One run of the score kernel's body: the pieces its stores leave in each of its three output blocks. -/

@[expose] public section

set_option maxRecDepth 16384

noncomputable section

namespace Cert.Kernel3Ideal.Body

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A block's rows after the norm. -/
def rowsOf (x0 : Vec F S512x1024 .f32) (x1 : Vec F S1x1024 .f32) : FVec F S512x1024 .bf16 :=
  truncf .bf16 (mulf (mulf (shapeCast S512x1024 x0 shapeCasts_S512x1024_S512x1024) (broadcastTo S512x1024 (rsqrt (addf (divf (shapeCast S512x1 (multiReduction .add [1] S512 (mulf (shapeCast S512x1024 x0 shapeCasts_S512x1024_S512x1024) (shapeCast S512x1024 x0 shapeCasts_S512x1024_S512x1024)) 0x00000000#32 reduces_S512x1024_S512 (.inl rfl) rfl) shapeCasts_S512_S512x1) (broadcast S512x1 (Scalar.ofBits .f32 0x44800000#32))) (broadcast S512x1 (Scalar.ofBits .f32 0x358637BD#32)))) broadcasts_S512x1_S512x1024)) (broadcastTo S512x1024 (shapeCast S1x1024 x1 shapeCasts_S1x1024_S1x1024) broadcasts_S1x1024_S512x1024)) bitsLt_bf16_f32

/-- Their queries, all heads and both halves side by side. -/
def queryOf (x0 : Vec F S512x1024 .f32) (x1 : Vec F S1x1024 .f32) (x2 : Vec F S1024x2048 .bf16) : FVec F S512x2048 .bf16 :=
  truncf .bf16 (matmul dot_S512x1024_S1024x2048_S512x2048_1_0_0_1_n_n none (rowsOf x0 x1) (shapeCast S1024x2048 x2 shapeCasts_S1024x2048_S1024x2048) (constant S512x2048 .f32 0x00000000#32)) bitsLt_bf16_f32

/-- The keys of one half. -/
def halfKeys (x3 : Vec F S2x128x128 .bf16) (p : Fin 2) : Vec F S1x128x128 .bf16 := fun j => x3 (ix3 p (j 1) (j 2))

/-- Loading that half's keys. -/
theorem ld_halfKeys (x3 : Vec F S2x128x128 .bf16) (p : Fin 2) (off : Fin 3 → ℕ) (hoff : off = ![p.val, 0, 0])
    (inb : ∀ a, off a + S1x128x128.size a ≤ S2x128x128.size a) :
    View.ld x3 (Rect.unit (s := S2x128x128) off S1x128x128.size inb) = halfKeys x3 p := by
  subst hoff
  funext j
  have h0 : (j 0).val = 0 := by have : (j 0).val < 1 := (j 0).isLt; omega
  show x3 _ = x3 _
  congr 1
  funext a
  apply Fin.ext
  fin_cases a
  · show p.val + 1 * (j 0).val = p.val
    omega
  · show 0 + 1 * (j 1).val = (j 1).val
    omega
  · show 0 + 1 * (j 2).val = (j 2).val
    omega

/-- The scores of one head's half: every key against every row's query. -/
def scoreOf (q : FVec F S512x2048 .bf16) (k : Vec F S1x128x128 .bf16) (off : Fin 2 → ℕ) (hs : S512x2048.Slices off S512x128) : FVec F S1x128x512 .f32 :=
  shapeCast S1x128x512 (matmul dot_S128x128_S512x128_S128x512_1_1_0_0_n_n none (shapeCast S128x128 k shapeCasts_S1x128x128_S128x128) (extractStridedSlice S512x128 off q hs) (constant S128x512 .f32 0x00000000#32)) shapeCasts_S128x512_S1x128x512

/-- The score block's pieces: one per head and half, the last first. -/
def scorePieces (x0 : Vec F S512x1024 .f32) (x1 : Vec F S1x1024 .f32) (x2 : Vec F S1024x2048 .bf16) (x3 : Vec F S2x128x128 .bf16) : List (View.Piece (Elt F) S16x128x512 .f32) :=
  [⟨Rect.unit (s := S16x128x512) ![15, 0, 0] S1x128x512.size inb_S16x128x512_S1x128x512_15_0_0, scoreOf (queryOf x0 x1 x2) (halfKeys x3 1) ![0, 1920] slices_S512x2048_o0_1920_S512x128⟩,
   ⟨Rect.unit (s := S16x128x512) ![14, 0, 0] S1x128x512.size inb_S16x128x512_S1x128x512_14_0_0, scoreOf (queryOf x0 x1 x2) (halfKeys x3 0) ![0, 1792] slices_S512x2048_o0_1792_S512x128⟩,
   ⟨Rect.unit (s := S16x128x512) ![13, 0, 0] S1x128x512.size inb_S16x128x512_S1x128x512_13_0_0, scoreOf (queryOf x0 x1 x2) (halfKeys x3 1) ![0, 1664] slices_S512x2048_o0_1664_S512x128⟩,
   ⟨Rect.unit (s := S16x128x512) ![12, 0, 0] S1x128x512.size inb_S16x128x512_S1x128x512_12_0_0, scoreOf (queryOf x0 x1 x2) (halfKeys x3 0) ![0, 1536] slices_S512x2048_o0_1536_S512x128⟩,
   ⟨Rect.unit (s := S16x128x512) ![11, 0, 0] S1x128x512.size inb_S16x128x512_S1x128x512_11_0_0, scoreOf (queryOf x0 x1 x2) (halfKeys x3 1) ![0, 1408] slices_S512x2048_o0_1408_S512x128⟩,
   ⟨Rect.unit (s := S16x128x512) ![10, 0, 0] S1x128x512.size inb_S16x128x512_S1x128x512_10_0_0, scoreOf (queryOf x0 x1 x2) (halfKeys x3 0) ![0, 1280] slices_S512x2048_o0_1280_S512x128⟩,
   ⟨Rect.unit (s := S16x128x512) ![9, 0, 0] S1x128x512.size inb_S16x128x512_S1x128x512_9_0_0, scoreOf (queryOf x0 x1 x2) (halfKeys x3 1) ![0, 1152] slices_S512x2048_o0_1152_S512x128⟩,
   ⟨Rect.unit (s := S16x128x512) ![8, 0, 0] S1x128x512.size inb_S16x128x512_S1x128x512_8_0_0, scoreOf (queryOf x0 x1 x2) (halfKeys x3 0) ![0, 1024] slices_S512x2048_o0_1024_S512x128⟩,
   ⟨Rect.unit (s := S16x128x512) ![7, 0, 0] S1x128x512.size inb_S16x128x512_S1x128x512_7_0_0, scoreOf (queryOf x0 x1 x2) (halfKeys x3 1) ![0, 896] slices_S512x2048_o0_896_S512x128⟩,
   ⟨Rect.unit (s := S16x128x512) ![6, 0, 0] S1x128x512.size inb_S16x128x512_S1x128x512_6_0_0, scoreOf (queryOf x0 x1 x2) (halfKeys x3 0) ![0, 768] slices_S512x2048_o0_768_S512x128⟩,
   ⟨Rect.unit (s := S16x128x512) ![5, 0, 0] S1x128x512.size inb_S16x128x512_S1x128x512_5_0_0, scoreOf (queryOf x0 x1 x2) (halfKeys x3 1) ![0, 640] slices_S512x2048_o0_640_S512x128⟩,
   ⟨Rect.unit (s := S16x128x512) ![4, 0, 0] S1x128x512.size inb_S16x128x512_S1x128x512_4_0_0, scoreOf (queryOf x0 x1 x2) (halfKeys x3 0) ![0, 512] slices_S512x2048_o0_512_S512x128⟩,
   ⟨Rect.unit (s := S16x128x512) ![3, 0, 0] S1x128x512.size inb_S16x128x512_S1x128x512_3_0_0, scoreOf (queryOf x0 x1 x2) (halfKeys x3 1) ![0, 384] slices_S512x2048_o0_384_S512x128⟩,
   ⟨Rect.unit (s := S16x128x512) ![2, 0, 0] S1x128x512.size inb_S16x128x512_S1x128x512_2_0_0, scoreOf (queryOf x0 x1 x2) (halfKeys x3 0) ![0, 256] slices_S512x2048_o0_256_S512x128⟩,
   ⟨Rect.unit (s := S16x128x512) ![1, 0, 0] S1x128x512.size inb_S16x128x512_S1x128x512_1_0_0, scoreOf (queryOf x0 x1 x2) (halfKeys x3 1) ![0, 128] slices_S512x2048_o0_128_S512x128⟩,
   ⟨Rect.unit (s := S16x128x512) ![0, 0, 0] S1x128x512.size inb_S16x128x512_S1x128x512_0_0_0, scoreOf (queryOf x0 x1 x2) (halfKeys x3 0) ![0, 0] slices_S512x2048_o0_0_S512x128⟩]

set_option maxHeartbeats 4000000 in
/-- The pieces the body's stores leave in its three output blocks, the last first, with the proof that the body runs from its
    four input blocks and leaves them as they were. -/
noncomputable def bodyRun (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S2x128x128 .bf16) (harg4 : arg4.IsWhole) (arg5 : Memref sig .tc .vmem S4096x2x128 .bf16) (harg5 : arg5.IsWhole) (arg6 : Memref sig .tc .vmem S16x128x512 .f32) (harg6 : arg6.IsWhole) (arg7 : Memref sig .tc .vmem S512x2x512 .bf16) (harg7 : arg7.IsWhole)
    (x0 : Vec F S512x1024 .f32) (x1 : Vec F S1x1024 .f32) (x2 : Vec F S1024x2048 .bf16) (x3 : Vec F S2x128x128 .bf16) :
    Σ' (L4 : List (View.Piece (Elt F) S4096x2x128 .bf16)), { L6 : List (View.Piece (Elt F) S512x2x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f (scorePieces x0 x1 x2 x3)) ∗ (∃ f, arg7.view.loc (c : Thread nD τ) ↦[arg7.view.set]{fullShare} arg7.view.writes (Elt F) f L6)) -∗ K ⟨⟩))
          ⊢ wp frame (wpE (defs₀ (F := F)) Variants.none c none) E (cc0_peer_scores i arg1 harg1 arg2 harg2 arg3 harg3 arg4 harg4 arg5 harg5 arg6 harg6 arg7 harg7) K } := by
  refine ⟨?_, ?_, fun E K => ?run⟩
  case run =>
    unfold cc0_peer_scores k0_part1 k0_part2 k0_part3 k0_part4 k0_part5
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3
    have e1 : View.readAt (Elt F) arg1.view (Rect.unit (s := S512x1024) ![0, 0] S512x1024.size inb_S512x1024_S512x1024_0_0).toLoadRect (harg1.unread x0) = x0 :=
      (View.readAt_full ..).trans (harg1.read_unread x0)
    have e2 : View.readAt (Elt F) arg2.view (Rect.unit (s := S1x1024) ![0, 0] S1x1024.size inb_S1x1024_S1x1024_0_0).toLoadRect (harg2.unread x1) = x1 :=
      (View.readAt_full ..).trans (harg2.read_unread x1)
    have e3 : View.readAt (Elt F) arg3.view (Rect.unit (s := S1024x2048) ![0, 0] S1024x2048.size inb_S1024x2048_S1024x2048_0_0).toLoadRect (harg3.unread x2) = x2 :=
      (View.readAt_full ..).trans (harg3.read_unread x2)
    have k0 : View.readAt (Elt F) arg4.view (Rect.unit (s := S2x128x128) ![0, 0, 0] S1x128x128.size inb_S2x128x128_S1x128x128_0_0_0).toLoadRect (harg4.unread x3) = halfKeys x3 0 :=
      (congrArg (fun z => View.ld z _) (harg4.read_unread x3)).trans (ld_halfKeys x3 0 _ rfl _)
    have k1 : View.readAt (Elt F) arg4.view (Rect.unit (s := S2x128x128) ![1, 0, 0] S1x128x128.size inb_S2x128x128_S1x128x128_1_0_0).toLoadRect (harg4.unread x3) = halfKeys x3 1 :=
      (congrArg (fun z => View.ld z _) (harg4.read_unread x3)).trans (ld_halfKeys x3 1 _ rfl _)
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

end Cert.Kernel3Ideal.Body

end
-- ==== Proof.ScoresBody.lean ====
module

public import proofs.«01_k».proof.Proof.ScoresRun

/-! The pipeline of the score kernel: what each of its 64 points leaves in the output blocks, the body's obligation at every point,
and the run of @main. -/

@[expose] public section

set_option maxRecDepth 16384

noncomputable section

namespace Cert.Kernel3Ideal.Body

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pieces cover their blocks -/

theorem mem_rows0 (y : S4096x2x128.Idx) (h : (y 0).val % 8 = 0) : y ∈ (⟨(⟨![0, 0, 0], S512x2x128.size, ![8, 1, 1], inb_S4096x2x128_S512x2x128_0_0_0_s_8_1_1⟩ : LoadRect S4096x2x128), spos_8_1_1⟩ : Rect S4096x2x128).set :=
  (⟨(⟨![0, 0, 0], S512x2x128.size, ![8, 1, 1], inb_S4096x2x128_S512x2x128_0_0_0_s_8_1_1⟩ : LoadRect S4096x2x128), spos_8_1_1⟩ : Rect S4096x2x128).mem_set.mpr fun a => by
    fin_cases a
    · exact ⟨(y 0).val / 8, by show (y 0).val / 8 < 512; have : (y 0).val < 4096 := (y 0).isLt; omega, by show (y 0).val = 0 + 8 * ((y 0).val / 8); omega⟩
    · exact ⟨(y 1).val, (y 1).isLt, by show (y 1).val = 0 + 1 * (y 1).val; omega⟩
    · exact ⟨(y 2).val, (y 2).isLt, by show (y 2).val = 0 + 1 * (y 2).val; omega⟩

theorem mem_rows1 (y : S4096x2x128.Idx) (h : (y 0).val % 8 = 1) : y ∈ (⟨(⟨![1, 0, 0], S512x2x128.size, ![8, 1, 1], inb_S4096x2x128_S512x2x128_1_0_0_s_8_1_1⟩ : LoadRect S4096x2x128), spos_8_1_1⟩ : Rect S4096x2x128).set :=
  (⟨(⟨![1, 0, 0], S512x2x128.size, ![8, 1, 1], inb_S4096x2x128_S512x2x128_1_0_0_s_8_1_1⟩ : LoadRect S4096x2x128), spos_8_1_1⟩ : Rect S4096x2x128).mem_set.mpr fun a => by
    fin_cases a
    · exact ⟨(y 0).val / 8, by show (y 0).val / 8 < 512; have : (y 0).val < 4096 := (y 0).isLt; omega, by show (y 0).val = 1 + 8 * ((y 0).val / 8); omega⟩
    · exact ⟨(y 1).val, (y 1).isLt, by show (y 1).val = 0 + 1 * (y 1).val; omega⟩
    · exact ⟨(y 2).val, (y 2).isLt, by show (y 2).val = 0 + 1 * (y 2).val; omega⟩

theorem mem_rows2 (y : S4096x2x128.Idx) (h : (y 0).val % 8 = 2) : y ∈ (⟨(⟨![2, 0, 0], S512x2x128.size, ![8, 1, 1], inb_S4096x2x128_S512x2x128_2_0_0_s_8_1_1⟩ : LoadRect S4096x2x128), spos_8_1_1⟩ : Rect S4096x2x128).set :=
  (⟨(⟨![2, 0, 0], S512x2x128.size, ![8, 1, 1], inb_S4096x2x128_S512x2x128_2_0_0_s_8_1_1⟩ : LoadRect S4096x2x128), spos_8_1_1⟩ : Rect S4096x2x128).mem_set.mpr fun a => by
    fin_cases a
    · exact ⟨(y 0).val / 8, by show (y 0).val / 8 < 512; have : (y 0).val < 4096 := (y 0).isLt; omega, by show (y 0).val = 2 + 8 * ((y 0).val / 8); omega⟩
    · exact ⟨(y 1).val, (y 1).isLt, by show (y 1).val = 0 + 1 * (y 1).val; omega⟩
    · exact ⟨(y 2).val, (y 2).isLt, by show (y 2).val = 0 + 1 * (y 2).val; omega⟩

theorem mem_rows3 (y : S4096x2x128.Idx) (h : (y 0).val % 8 = 3) : y ∈ (⟨(⟨![3, 0, 0], S512x2x128.size, ![8, 1, 1], inb_S4096x2x128_S512x2x128_3_0_0_s_8_1_1⟩ : LoadRect S4096x2x128), spos_8_1_1⟩ : Rect S4096x2x128).set :=
  (⟨(⟨![3, 0, 0], S512x2x128.size, ![8, 1, 1], inb_S4096x2x128_S512x2x128_3_0_0_s_8_1_1⟩ : LoadRect S4096x2x128), spos_8_1_1⟩ : Rect S4096x2x128).mem_set.mpr fun a => by
    fin_cases a
    · exact ⟨(y 0).val / 8, by show (y 0).val / 8 < 512; have : (y 0).val < 4096 := (y 0).isLt; omega, by show (y 0).val = 3 + 8 * ((y 0).val / 8); omega⟩
    · exact ⟨(y 1).val, (y 1).isLt, by show (y 1).val = 0 + 1 * (y 1).val; omega⟩
    · exact ⟨(y 2).val, (y 2).isLt, by show (y 2).val = 0 + 1 * (y 2).val; omega⟩

theorem mem_rows4 (y : S4096x2x128.Idx) (h : (y 0).val % 8 = 4) : y ∈ (⟨(⟨![4, 0, 0], S512x2x128.size, ![8, 1, 1], inb_S4096x2x128_S512x2x128_4_0_0_s_8_1_1⟩ : LoadRect S4096x2x128), spos_8_1_1⟩ : Rect S4096x2x128).set :=
  (⟨(⟨![4, 0, 0], S512x2x128.size, ![8, 1, 1], inb_S4096x2x128_S512x2x128_4_0_0_s_8_1_1⟩ : LoadRect S4096x2x128), spos_8_1_1⟩ : Rect S4096x2x128).mem_set.mpr fun a => by
    fin_cases a
    · exact ⟨(y 0).val / 8, by show (y 0).val / 8 < 512; have : (y 0).val < 4096 := (y 0).isLt; omega, by show (y 0).val = 4 + 8 * ((y 0).val / 8); omega⟩
    · exact ⟨(y 1).val, (y 1).isLt, by show (y 1).val = 0 + 1 * (y 1).val; omega⟩
    · exact ⟨(y 2).val, (y 2).isLt, by show (y 2).val = 0 + 1 * (y 2).val; omega⟩

theorem mem_rows5 (y : S4096x2x128.Idx) (h : (y 0).val % 8 = 5) : y ∈ (⟨(⟨![5, 0, 0], S512x2x128.size, ![8, 1, 1], inb_S4096x2x128_S512x2x128_5_0_0_s_8_1_1⟩ : LoadRect S4096x2x128), spos_8_1_1⟩ : Rect S4096x2x128).set :=
  (⟨(⟨![5, 0, 0], S512x2x128.size, ![8, 1, 1], inb_S4096x2x128_S512x2x128_5_0_0_s_8_1_1⟩ : LoadRect S4096x2x128), spos_8_1_1⟩ : Rect S4096x2x128).mem_set.mpr fun a => by
    fin_cases a
    · exact ⟨(y 0).val / 8, by show (y 0).val / 8 < 512; have : (y 0).val < 4096 := (y 0).isLt; omega, by show (y 0).val = 5 + 8 * ((y 0).val / 8); omega⟩
    · exact ⟨(y 1).val, (y 1).isLt, by show (y 1).val = 0 + 1 * (y 1).val; omega⟩
    · exact ⟨(y 2).val, (y 2).isLt, by show (y 2).val = 0 + 1 * (y 2).val; omega⟩

theorem mem_rows6 (y : S4096x2x128.Idx) (h : (y 0).val % 8 = 6) : y ∈ (⟨(⟨![6, 0, 0], S512x2x128.size, ![8, 1, 1], inb_S4096x2x128_S512x2x128_6_0_0_s_8_1_1⟩ : LoadRect S4096x2x128), spos_8_1_1⟩ : Rect S4096x2x128).set :=
  (⟨(⟨![6, 0, 0], S512x2x128.size, ![8, 1, 1], inb_S4096x2x128_S512x2x128_6_0_0_s_8_1_1⟩ : LoadRect S4096x2x128), spos_8_1_1⟩ : Rect S4096x2x128).mem_set.mpr fun a => by
    fin_cases a
    · exact ⟨(y 0).val / 8, by show (y 0).val / 8 < 512; have : (y 0).val < 4096 := (y 0).isLt; omega, by show (y 0).val = 6 + 8 * ((y 0).val / 8); omega⟩
    · exact ⟨(y 1).val, (y 1).isLt, by show (y 1).val = 0 + 1 * (y 1).val; omega⟩
    · exact ⟨(y 2).val, (y 2).isLt, by show (y 2).val = 0 + 1 * (y 2).val; omega⟩

theorem mem_rows7 (y : S4096x2x128.Idx) (h : (y 0).val % 8 = 7) : y ∈ (⟨(⟨![7, 0, 0], S512x2x128.size, ![8, 1, 1], inb_S4096x2x128_S512x2x128_7_0_0_s_8_1_1⟩ : LoadRect S4096x2x128), spos_8_1_1⟩ : Rect S4096x2x128).set :=
  (⟨(⟨![7, 0, 0], S512x2x128.size, ![8, 1, 1], inb_S4096x2x128_S512x2x128_7_0_0_s_8_1_1⟩ : LoadRect S4096x2x128), spos_8_1_1⟩ : Rect S4096x2x128).mem_set.mpr fun a => by
    fin_cases a
    · exact ⟨(y 0).val / 8, by show (y 0).val / 8 < 512; have : (y 0).val < 4096 := (y 0).isLt; omega, by show (y 0).val = 7 + 8 * ((y 0).val / 8); omega⟩
    · exact ⟨(y 1).val, (y 1).isLt, by show (y 1).val = 0 + 1 * (y 1).val; omega⟩
    · exact ⟨(y 2).val, (y 2).isLt, by show (y 2).val = 0 + 1 * (y 2).val; omega⟩

abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x128x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x2x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x128x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x2x512 .bf16 := win0_6.stage (cfg0.slots t 6)
abbrev hs0_6 (t : Fin cfg0.N) : (ms0_6 t).IsWhole := hstage0_6 ((cfg0.slots t 6).cast nbuf0_6)

/-- The body's run at point `t`, on the blocks staged there. -/
def runAt (c : Dev nD) (t : Fin cfg0.N) :=
  bodyRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t)

/-- Every row of the word block is stored: row `r` by the store that starts at `r % 8`. -/
theorem cover4 (c : Dev nD) (t : Fin cfg0.N) (y : S4096x2x128.Idx) : ∃ p ∈ (runAt m c t).1, y ∈ p.1.set := by
  obtain h | h | h | h | h | h | h | h : (y 0).val % 8 = 0 ∨ (y 0).val % 8 = 1 ∨ (y 0).val % 8 = 2 ∨ (y 0).val % 8 = 3
      ∨ (y 0).val % 8 = 4 ∨ (y 0).val % 8 = 5 ∨ (y 0).val % 8 = 6 ∨ (y 0).val % 8 = 7 := by omega
  · exact ⟨_, List.Mem.tail _ (List.Mem.tail _ (List.Mem.tail _ (List.Mem.tail _ (List.Mem.tail _ (List.Mem.tail _ (List.Mem.tail _ (List.Mem.head _))))))), mem_rows0 y h⟩
  · exact ⟨_, List.Mem.tail _ (List.Mem.tail _ (List.Mem.tail _ (List.Mem.tail _ (List.Mem.tail _ (List.Mem.tail _ (List.Mem.head _)))))), mem_rows1 y h⟩
  · exact ⟨_, List.Mem.tail _ (List.Mem.tail _ (List.Mem.tail _ (List.Mem.tail _ (List.Mem.tail _ (List.Mem.head _))))), mem_rows2 y h⟩
  · exact ⟨_, List.Mem.tail _ (List.Mem.tail _ (List.Mem.tail _ (List.Mem.tail _ (List.Mem.head _)))), mem_rows3 y h⟩
  · exact ⟨_, List.Mem.tail _ (List.Mem.tail _ (List.Mem.tail _ (List.Mem.head _))), mem_rows4 y h⟩
  · exact ⟨_, List.Mem.tail _ (List.Mem.tail _ (List.Mem.head _)), mem_rows5 y h⟩
  · exact ⟨_, List.Mem.tail _ (List.Mem.head _), mem_rows6 y h⟩
  · exact ⟨_, List.Mem.head _, mem_rows7 y h⟩

/-- Every head's half of the score block is stored. -/
theorem cover5 (c : Dev nD) (t : Fin cfg0.N) (y : S16x128x512.Idx) : ∃ p ∈ (scorePieces (iblk m c 0 t) (iblk m c 1 t) (iblk m c 2 t) (iblk m c 3 t)), y ∈ p.1.set :=
  View.cover_of_tiledL (scorePieces (iblk m c 0 t) (iblk m c 1 t) (iblk m c 2 t) (iblk m c 3 t)) S1x128x512.size (by sl_kernel_rfl) y

/-- The block of the rows' words is stored whole. -/
theorem cover6 (c : Dev nD) (t : Fin cfg0.N) (y : S512x2x512.Idx) : ∃ p ∈ (runAt m c t).2.1, y ∈ p.1.set :=
  View.cover_of_tiledL (runAt m c t).2.1 S512x2x512.size (by sl_kernel_rfl) y

/-! ## The proof data -/

abbrev O4 : View sig .tc .vmem S4096x2x128 .bf16 := (Memref.whole cc0_stg4_0 : Memref sig .tc .vmem S4096x2x128 .bf16).view
abbrev O5 : View sig .tc .vmem S16x128x512 .f32 := (Memref.whole cc0_stg5_0 : Memref sig .tc .vmem S16x128x512 .f32).view
abbrev O6 : View sig .tc .vmem S512x2x512 .bf16 := (Memref.whole cc0_stg6_0 : Memref sig .tc .vmem S512x2x512 .bf16).view

/-- What point `t` leaves in each output block: its pieces read back. -/
def out4 (c : Dev nD) (t : Fin cfg0.N) : Vec F S4096x2x128 .bf16 := O4.read (Elt F) (O4.writes (Elt F) O4.junk (runAt m c t).1)
def out5 (c : Dev nD) (t : Fin cfg0.N) : Vec F S16x128x512 .f32 := O5.read (Elt F) (O5.writes (Elt F) O5.junk (scorePieces (iblk m c 0 t) (iblk m c 1 t) (iblk m c 2 t) (iblk m c 3 t)))
def out6 (c : Dev nD) (t : Fin cfg0.N) : Vec F S512x2x512 .bf16 := O6.read (Elt F) (O6.writes (Elt F) O6.junk (runAt m c t).2.1)

/-- The proof data of the pipeline: each input's block in its buffer, each output's at what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 m c t
    | ⟨5, _⟩ => out5 m c t
    | ⟨6, _⟩ => out6 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out4 m c t := by dsimp only [dats]
theorem after0_5 (c : Dev nD) (t : Fin cfg0.N) : (dats m 0 c).after 5 t = out5 m c t := by dsimp only [dats]
theorem after0_6 (c : Dev nD) (t : Fin cfg0.N) : (dats m 0 c).after 6 t = out6 m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    show (dats m 0 c).Φ t.succ = (dats m 0 c).Φ t.castSucc from rfl,
    after0_0, after0_1, after0_2, after0_3, after0_4, after0_5, after0_6]
  unfold out4 out5 out6
  iintro ⟨Hg, Ho, ⟨%d0, H0⟩, ⟨%d1, H1⟩, ⟨%d2, H2⟩, ⟨%d3, H3⟩, ⟨%d4, H4⟩, ⟨%d5, H5⟩, ⟨%d6, H6⟩⟩
  iapply ((runAt m c t).2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, ⟨%e4, H4⟩, ⟨%e5, H5⟩, ⟨%e6, H6⟩⟩
  isplitl [Hg]; · iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover4 m c t)
  isplitl [H5]
  · unfold owns; iexists _; isplitr
    swap; · iexact H5
    ipureintro; exact View.read_writes_of_cover _ _ _ _ _ (cover5 m c t)
  unfold owns; iexists _; isplitr
  swap; · iexact H6
  ipureintro; exact View.read_writes_of_cover _ _ _ _ _ (cover6 m c t)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- @main runs, with every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun _ => Idealize.SL.BI.Entails.refl _) (hout := fun _ => Idealize.SL.BI.Entails.refl _)

/-- @main runs: every array of the pipeline ends at what the proof data say, every other buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame with the counters: the argument arrays end unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel3Ideal.Body

end
-- ==== Proof.ScoresValue.lean ====
module

public import proofs.«01_k».proof.Proof.ScoresRef
public import proofs.«01_k».proof.Proof.ScoresBody
public import Idealize.ShloMosaic.Lib.Pipeline.ValueKit

/-! The score kernel's result over the extended reals, read at an index. -/

@[expose] public section

set_option maxRecDepth 16384

noncomputable section

namespace Cert.Kernel3Ideal.Val

open Idealize.ShloMosaic Idealize.ShloMosaic.TcCoe Cert.Kernel3Ideal Cert.Kernel3Ideal.Gen Cert.Kernel3Ideal.Body Cert.Scores
open Cert.Mixer (normRow)
open Idealize.ShloMosaic.Pipeline (Dat)

section
variable (x0 : FVec Ideal S512x1024 .f32) (x1 : FVec Ideal S1x1024 .f32) (x2 : FVec Ideal S1024x2048 .bf16) (x3 : FVec Ideal S2x128x128 .bf16)

theorem rowsOf_at (r : Fin 512) (c : Fin 1024) : rowsOf (F := Ideal) x0 x1 (ix2 r c) = normRow (fun k => x0 (ix2 r k)) (fun k => x1 (ix2 0 k)) c := by
  unfold normRow
  pointwise [rowsOf]
  try rfl

theorem queryOf_at (r : Fin 512) (c : Fin 2048) : queryOf (F := Ideal) x0 x1 x2 (ix2 r c)
    = ∑ k, normRow (fun k => x0 (ix2 r k)) (fun k => x1 (ix2 0 k)) k * x2 (ix2 k c) := by
  simp only [← rowsOf_at]
  unfold queryOf
  generalize rowsOf (F := Ideal) x0 x1 = u
  pointwise []
  try rfl

theorem scoreOf_at (q : FVec Ideal S512x2048 .bf16) (k : FVec Ideal S1x128x128 .bf16) (o : ℕ) (hs : S512x2048.Slices ![0, o] S512x128)
    (ho : o + 128 ≤ 2048) (n : Fin 128) (r : Fin 512) : scoreOf (F := Ideal) q k ![0, o] hs (ix3 0 n r)
      = ∑ j : Fin 128, k (ix3 0 n j) * q (ix2 r ⟨o + j.val, by omega⟩) := by
  pointwise [scoreOf]
  try rfl

/-- The score block as one function of its index. -/
def scoreBlock (y : S16x128x512.Idx) : EReal :=
  ∑ j : Fin 128, x3 (ix3 (half (y 0)) (y 1) j) * queryOf (F := Ideal) x0 x1 x2 (ix2 (y 2) (qcol (y 0) j))

theorem scoreBlock_at (h : Fin 16) (n : Fin 128) (r : Fin 512) : scoreBlock x0 x1 x2 x3 (ix3 h n r)
    = ∑ j : Fin 128, x3 (ix3 (half h) n j) * ∑ k, normRow (fun k => x0 (ix2 r k)) (fun k => x1 (ix2 0 k)) k * x2 (ix2 k (qcol h j)) := by
  simp only [← queryOf_at]
  rfl

/-- One piece of the block is that function's part. -/
theorem piece_at (h : Fin 16) (p : Fin 2) (o : ℕ) (hp : p = half h) (ho : o = h.val * 128) (off : Fin 3 → ℕ) (hoff : off = ![h.val, 0, 0])
    (inb : ∀ a, off a + S1x128x512.size a ≤ S16x128x512.size a) (hs : S512x2048.Slices ![0, o] S512x128) (x : S1x128x512.Idx) :
    scoreOf (F := Ideal) (queryOf x0 x1 x2) (halfKeys x3 p) ![0, o] hs x
      = scoreBlock x0 x1 x2 x3 ((Rect.unit (s := S16x128x512) off S1x128x512.size inb).emb x) := by
  subst hp ho hoff
  obtain ⟨z, n, r, rfl⟩ : ∃ (z : Fin 1) (n : Fin 128) (r : Fin 512), x = ix3 z n r := ⟨x 0, x 1, x 2, eq_ix3 x⟩
  obtain rfl : z = 0 := Fin.ext (by omega)
  rw [scoreOf_at _ _ _ _ (by omega)]
  have e : (Rect.unit (s := S16x128x512) ![h.val, 0, 0] S1x128x512.size inb).emb (ix3 0 n r) = ix3 h n r := by
    funext a
    apply Fin.ext
    fin_cases a
    · show h.val + 1 * 0 = h.val
      omega
    · show 0 + 1 * n.val = n.val
      omega
    · show 0 + 1 * r.val = r.val
      omega
  rw [e]
  rfl

theorem pieces_at : ∀ p ∈ scorePieces (F := Ideal) x0 x1 x2 x3, ∀ x : p.1.shape.Idx, p.2 x = scoreBlock x0 x1 x2 x3 (p.1.emb x) := by
  unfold scorePieces
  simp only [List.forall_mem_cons]
  refine ⟨?_, ?_, ?_, ?_, ?_, ?_, ?_, ?_, ?_, ?_, ?_, ?_, ?_, ?_, ?_, ?_, fun _ h => absurd h List.not_mem_nil⟩
  · exact piece_at x0 x1 x2 x3 15 1 _ rfl rfl _ rfl _ _
  · exact piece_at x0 x1 x2 x3 14 0 _ rfl rfl _ rfl _ _
  · exact piece_at x0 x1 x2 x3 13 1 _ rfl rfl _ rfl _ _
  · exact piece_at x0 x1 x2 x3 12 0 _ rfl rfl _ rfl _ _
  · exact piece_at x0 x1 x2 x3 11 1 _ rfl rfl _ rfl _ _
  · exact piece_at x0 x1 x2 x3 10 0 _ rfl rfl _ rfl _ _
  · exact piece_at x0 x1 x2 x3 9 1 _ rfl rfl _ rfl _ _
  · exact piece_at x0 x1 x2 x3 8 0 _ rfl rfl _ rfl _ _
  · exact piece_at x0 x1 x2 x3 7 1 _ rfl rfl _ rfl _ _
  · exact piece_at x0 x1 x2 x3 6 0 _ rfl rfl _ rfl _ _
  · exact piece_at x0 x1 x2 x3 5 1 _ rfl rfl _ rfl _ _
  · exact piece_at x0 x1 x2 x3 4 0 _ rfl rfl _ rfl _ _
  · exact piece_at x0 x1 x2 x3 3 1 _ rfl rfl _ rfl _ _
  · exact piece_at x0 x1 x2 x3 2 0 _ rfl rfl _ rfl _ _
  · exact piece_at x0 x1 x2 x3 1 1 _ rfl rfl _ rfl _ _
  · exact piece_at x0 x1 x2 x3 0 0 _ rfl rfl _ rfl _ _

end

variable (m : (ℓ : Loc nD τ sig) → Buf (Elt Ideal) ℓ) (c : Dev nD)

/-- Which block each window stages at a point. -/
theorem idx : ∀ t : Fin cfg0.N, win0_0.index t = ![t.val, 0] ∧ win0_1.index t = ![0, 0]
    ∧ win0_2.index t = ![0, 0] ∧ win0_3.index t = ![0, 0, 0] ∧ win0_5.index t = ![0, 0, t.val] :=
  (by decide +kernel : ∀ t : Fin grid0.N, _)

/-- The rows a point works on. -/
def rowOf (t : Fin cfg0.N) (r : Fin 512) : Fin 32768 := ⟨t.val * 512 + r.val, by have := Nat.lt_of_lt_of_eq t.isLt N_0; omega⟩

theorem blk0 (t : Fin cfg0.N) (r : Fin 512) (k : Fin 1024) :
    iblk m c 0 t (ix2 r k) = Cert.Reference3Ideal.Val.xrow (m ((c : Thread nD τ).loc main_arg0)) (rowOf t r) k := by
  unfold Cert.Reference3Ideal.Val.xrow rowOf
  blk_simp [iblk]
  entry_read
  pointwise []
  blk_ext [idx t]

theorem blk1 (t : Fin cfg0.N) (k : Fin 1024) : iblk m c 1 t (ix2 0 k) = m ((c : Thread nD τ).loc main_arg1) (ix1 k) := by
  blk_point [iblk, V, idx t]

theorem blk2 (t : Fin cfg0.N) (k : Fin 1024) (j : Fin 2048) :
    iblk m c 2 t (ix2 k j) = m ((c : Thread nD τ).loc main_arg2) (ix2 k j) := by
  blk_ext [iblk, V, idx t]

theorem blk3 (t : Fin cfg0.N) (p : Fin 2) (n j : Fin 128) :
    iblk m c 3 t (ix3 p n j) = m ((c : Thread nD τ).loc main_arg3) (ix3 p n j) := by
  blk_ext [iblk, V, idx t]

/-- The score block a point writes. -/
theorem out_at (t : Fin cfg0.N) (h : Fin 16) (n : Fin 128) (r : Fin 512) : out5 m c t (ix3 h n r)
    = scoreAt (Cert.Reference3Ideal.Val.xrow (m ((c : Thread nD τ).loc main_arg0)) (rowOf t r)) (Cert.Reference3Ideal.Val.gain (m ((c : Thread nD τ).loc main_arg1)))
        (Cert.Reference3Ideal.Val.weight (m ((c : Thread nD τ).loc main_arg2))) (Cert.Reference3Ideal.Val.keys (m ((c : Thread nD τ).loc main_arg3))) h n := by
  unfold out5
  rw [View.read_writes_apply_of_pieces O5 _ _ _ (pieces_at _ _ _ _) _ (cover5 m c t _)]
  refine (scoreBlock_at _ _ _ _ h n r).trans ?_
  unfold scoreAt
  refine Finset.sum_congr rfl fun j _ => ?_
  refine congrArg₂ (· * ·) (blk3 m c t (half h) n j) (Finset.sum_congr rfl fun k _ => ?_)
  refine congrArg₂ (· * ·) ?_ (blk2 m c t k (qcol h j))
  exact congrArg₂ (fun a b => normRow a b k) (funext fun k => blk0 m c t r k) (funext fun k => blk1 m c t k)

/-- The scores after the run. -/
theorem final : (dats m 0 c).arrAt 5 (cfgs 0).N = Cert.Reference3Ideal.Val.result (m ((c : Thread nD τ).loc main_arg0)) (m ((c : Thread nD τ).loc main_arg1))
    (m ((c : Thread nD τ).loc main_arg2)) (m ((c : Thread nD τ).loc main_arg3)) := by
  refine (dats m 0 c).arrAt_eq_of_covers 5 _ (by decide +kernel) fun t _ y => ?_
  blk_simp
  rw [after0_5]
  obtain ⟨h, n, r, rfl⟩ : ∃ (h : Fin 16) (n : Fin 128) (r : Fin 512), y = ix3 h n r := ⟨y 0, y 1, y 2, eq_ix3 y⟩
  have hi : (win0_5.blk t).view.emb (ix3 h n r) = ix3 h n (rowOf t r) := by
    unfold rowOf
    blk_ext [idx t]
  rw [hi]
  refine (out_at m c t h n r).trans ?_
  exact (Cert.Reference3Ideal.Val.result_at _ _ _ _ h n (rowOf t r)).symm

end Cert.Kernel3Ideal.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.RefRun
public import proofs.«01_k».proof.Proof.Body
public import proofs.«01_k».proof.Proof.RefOut
public import proofs.«01_k».proof.Proof.Value
public import proofs.«01_k».proof.Proof.QkvFinite
public import proofs.«01_k».proof.Proof.QkvValue
public import proofs.«01_k».proof.Proof.ScoresBits
public import proofs.«01_k».proof.Proof.ScoresValue
public import Idealize.ShloMosaic.Lib.Bf16PairInverse
public import Idealize.ShloMosaic.Adequacy
public import Idealize.ShloMosaic.Init

@[expose] public section

noncomputable section

namespace Cert.Proof

open Idealize.ShloMosaic Idealize.SL.Sem Cert.Kernel

/-- The two printed kernels declare the same bodies, read over bit patterns. -/
theorem bodies_eq : (Cert.Kernel.defs₀ (F := Bits)) = Cert.KernelIdeal.defs₀ (F := Bits) := by
  unfold Cert.Kernel.defs₀ Cert.KernelIdeal.defs₀
  refine congrArg Defs.onTc ?_
  funext l a
  obtain ⟨n, h⟩ := l
  cases n with
  | zero => rfl
  | succ n => exact absurd h (Nat.not_lt.2 (Nat.le_add_left _ _))

/-- Hence they declare the same pipelined definitions. -/
theorem defs_eq : (Cert.Kernel.defs (F := Bits)) = Cert.KernelIdeal.defs (F := Bits) := by
  unfold Cert.Kernel.defs Cert.KernelIdeal.defs
  exact congrArg _ bodies_eq

/-- The kernel as printed: its arguments end unchanged and every semaphore counter is zero. -/
theorem frame_kernel : Cert.quiescent_Kernel := by
  intro m ρ _
  have h := Cert.KernelIdeal.Body.frame (F := Bits) m ρ
  rw [defs_eq]
  exact h

/-- The kernel over the extended reals: the same. -/
theorem frame_kernelIdeal : Cert.quiescent_KernelIdeal := fun m ρ _ => Cert.KernelIdeal.Body.frame (F := Ideal) m ρ

/-- The reference over the extended reals: the same; it declares no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The reference's result over the extended reals, from a memory holding the arguments the kernel's memory `m` holds: the
    mixer's result at every index. -/
theorem reference_result (m : (ℓ : Loc Cert.KernelIdeal.nD Cert.KernelIdeal.τ Cert.KernelIdeal.sig) → Buf (Elt Ideal) ℓ)
    (c : Dev Cert.KernelIdeal.nD) (a0 a1 a2 a3 a4 a5 a6 a7 a8 a9 a10)
    (h : Cert.ReferenceIdeal.Val.par a0 a1 a2 a3 a4 a5 a6 a7 a8 a9 a10 = Cert.KernelIdeal.Val.argPar m c) :
    Cert.ReferenceIdeal.Step.R_main_v124 (F := Ideal) (Cert.ReferenceIdeal.Val.it a0 a1 a2 a3 a4 a5 a6 a7 a8 a9 4096) a0 a1 a2 a10
      = Cert.KernelIdeal.Val.result m c := by
  funext i
  obtain ⟨b, s, j, rfl⟩ : ∃ (b : Fin 8) (s : Fin 4096) (j : Fin 1024), i = ix3 b s j := ⟨i 0, i 1, i 2, eq_ix3 i⟩
  rw [Cert.ReferenceIdeal.Val.out_at, h]
  rfl

/-- From arguments that agree, kernel and reference over the extended reals end with equal results, their arguments unchanged. -/
theorem algebraic : Cert.algebraic_KernelIdeal_ReferenceIdeal := by
  intro m g m' g' _ hagree
  refine ⟨Cert.KernelIdeal.Val.result m, ?_, ?_⟩
  · refine (θ_run Cert.KernelIdeal.defs _ _).mono (fun r h c => ⟨?_, h.2 c⟩)
      (θ_run_and (Cert.KernelIdeal.Body.run_main (F := Ideal) m g) (Cert.KernelIdeal.Body.unchanged (F := Ideal) m g))
    exact ((h.1 c).1 11).trans (Cert.KernelIdeal.Val.final m c)
  · refine (θ_run Cert.ReferenceIdeal.defs _ _).mono (fun r h c => ⟨?_, (h c).2⟩)
      (Cert.ReferenceIdeal.Trips.run_iter (F := Ideal) m' g'
        (fun c => Cert.ReferenceIdeal.Val.it
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7))
          (m' ((c.tc : Thread Cert.ReferenceIdeal.nD Cert.ReferenceIdeal.τ).loc Cert.ReferenceIdeal.main_arg8))
          (m' ((c.tc : Thread Cert.ReferenceIdeal.nD Cert.ReferenceIdeal.τ).loc Cert.ReferenceIdeal.main_arg9)))
        (fun _ => rfl) (fun _ _ => rfl))
    obtain ⟨h0, h1, h2, h3, h4, h5, h6, h7, h8, h9, h10⟩ := hagree c
    refine (h c).1.trans (reference_result m c _ _ _ _ _ _ _ _ _ _ (m' ((c.tc : Thread Cert.ReferenceIdeal.nD Cert.ReferenceIdeal.τ).loc Cert.ReferenceIdeal.main_arg10)) ?_)
    unfold Cert.KernelIdeal.Val.argPar
    rw [h0, h1, h2, h3, h4, h5, h6, h7, h8, h9, h10]

/-- The projection kernel as printed: its arguments end unchanged and every semaphore counter is zero. -/
theorem frame_kernel2 : Cert.quiescent_Kernel2 := fun m ρ _ => Cert.Kernel2.Gen.frame (F := Bits) m ρ

/-- The projection kernel over the extended reals: the same. -/
theorem frame_kernel2Ideal : Cert.quiescent_Kernel2Ideal := fun m ρ _ => Cert.Kernel2Ideal.Gen.frame (F := Ideal) m ρ

/-- The projection's reference over the extended reals: the same; it declares no semaphore. -/
theorem frame_reference2 : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- The projection's reference over the extended reals, from a memory holding the arguments the kernel's memory holds. -/
theorem reference2_result (m : (ℓ : Loc Cert.Reference2Ideal.nD Cert.Reference2Ideal.τ Cert.Reference2Ideal.sig) → Buf (Elt Ideal) ℓ)
    (c : Dev Cert.Reference2Ideal.nD) : Cert.Reference2Ideal.Value.res_main_v52 m c = Cert.Reference2Ideal.Val.result
      (m ((c.tc : Thread Cert.Reference2Ideal.nD Cert.Reference2Ideal.τ).loc Cert.Reference2Ideal.main_arg0))
      (m ((c.tc : Thread Cert.Reference2Ideal.nD Cert.Reference2Ideal.τ).loc Cert.Reference2Ideal.main_arg1))
      (m ((c.tc : Thread Cert.Reference2Ideal.nD Cert.Reference2Ideal.τ).loc Cert.Reference2Ideal.main_arg2))
      (m ((c.tc : Thread Cert.Reference2Ideal.nD Cert.Reference2Ideal.τ).loc Cert.Reference2Ideal.main_arg3))
      (m ((c.tc : Thread Cert.Reference2Ideal.nD Cert.Reference2Ideal.τ).loc Cert.Reference2Ideal.main_arg4)) :=
  (Cert.Reference2Ideal.Val.res_eq m c).trans (Cert.Reference2Ideal.Val.whole_eq _ _ _ _ _)

/-- From arguments that agree, the norm's gain and the weight real, the projection's kernel and reference over the extended
    reals end with equal results, their arguments unchanged. -/
theorem algebraic2 [hPre_finite : Cert.Pre_finite.Facts] : Cert.algebraic_Kernel2Ideal_Reference2Ideal_pre_finite := by
  intro m g m' g' hpre hagree
  refine ⟨fun c => Cert.Reference2Ideal.Val.result
      (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4)), ?_, ?_⟩
  · refine (θ_run Cert.Kernel2Ideal.defs _ _).mono (fun r h c => ⟨?_, h.2 c⟩)
      (θ_run_and (Cert.Kernel2Ideal.Gen.run_main (F := Ideal) m g) (Cert.Kernel2Ideal.Gen.unchanged (F := Ideal) m g))
    exact ((h.1 c).1 6).trans (Cert.Kernel2Ideal.Val.final m c
      (fun k => Cert.Pre_finite.real_one _ _ _ _ _ (hpre c).1 (ix1 k))
      (fun q k j => Cert.Pre_finite.real_two _ _ _ _ _ (hpre c).2 (ix2 k (Cert.Qkv.tcol q j))))
  · refine (θ_run Cert.Reference2Ideal.defs _ _).mono (fun r h c => ⟨?_, (h c).2⟩)
      (Cert.Reference2Ideal.Value.run (F := Ideal) m' g')
    obtain ⟨h0, h1, h2, h3, h4⟩ := hagree c
    refine (h c).1.trans ((reference2_result m' c).trans ?_)
    rw [h0, h1, h2, h3, h4]

/-- The score kernel as printed: its arguments end unchanged and every semaphore counter is zero. -/
theorem frame_kernel3 : Cert.quiescent_Kernel3 := fun m ρ _ => Cert.Kernel3.Body.frame (F := Bits) m ρ

/-- The score kernel over the extended reals: the same. -/
theorem frame_kernel3Ideal : Cert.quiescent_Kernel3Ideal := fun m ρ _ => Cert.Kernel3Ideal.Body.frame (F := Ideal) m ρ

/-- The scores' reference over the extended reals: the same; it declares no semaphore. -/
theorem frame_reference3 : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- The buffers of packed words as pairs of rows: the two arrays and the two windows; then the packing of the two halves, and the
    stores of the packed words into the two windows. -/
theorem preserves3 : Cert.preserves_Kernel3_Kernel3Ideal :=
  open Cert.Kernel3Ideal IdealRules.bf16_pair in
  ⟨bufferStatement S262144x2x128 S262144x1x128, bufferStatement S32768x2x512 S32768x1x512, bufferStatement S4096x2x128 S4096x1x128,
    bufferStatement S512x2x512 S512x1x512, halfStatement S512x1024, statement S512x2x512 S512x1x512, statement S512x2x128 S512x1x128⟩

/-- From arguments that agree, the scores' kernel and reference over the extended reals end with equal results, their arguments unchanged. -/
theorem algebraic3 : Cert.algebraic_Kernel3Ideal_Reference3Ideal := by
  intro m g m' g' _ hagree
  refine ⟨fun c => Cert.Reference3Ideal.Val.result
      (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3)), ?_, ?_⟩
  · refine (θ_run Cert.Kernel3Ideal.defs _ _).mono (fun r h c => ⟨?_, h.2 c⟩)
      (θ_run_and (Cert.Kernel3Ideal.Body.run_main (F := Ideal) m g) (Cert.Kernel3Ideal.Body.unchanged (F := Ideal) m g))
    exact ((h.1 c).1 5).trans (Cert.Kernel3Ideal.Val.final m c)
  · refine (θ_run Cert.Reference3Ideal.defs _ _).mono (fun r h c => ⟨?_, (h c).2⟩)
      (Cert.Reference3Ideal.Value.run (F := Ideal) m' g')
    obtain ⟨h0, h1, h2, h3⟩ := hagree c
    refine (h c).1.trans ?_
    rw [h0, h1, h2, h3]
    rfl

/-- Everything the certificate claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_finite.facts,
  frame_kernel, frame_kernelIdeal, frame_reference, frame_kernel2, frame_kernel2Ideal, fun m g _ => frame_kernel2Ideal m g trivial,
  frame_reference2, fun m g _ => frame_reference2 m g trivial,
  frame_kernel3, frame_kernel3Ideal, frame_reference3, trivial, algebraic, trivial, algebraic2 (hPre_finite := Cert.Pre_finite.facts),
  preserves3, algebraic3⟩

end Cert.Proof

end
